-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "d4" .f32 0x3F27F62B#32 ((6561 / 10000 : ℝ) : EReal)
  ∧ IdealRules.named_const.Statement Cert.KernelIdeal.κ "d3" .f32 0x3F3A9FBE#32 ((729 / 1000 : ℝ) : EReal)
  ∧ IdealRules.named_const.Statement Cert.KernelIdeal.κ "d2" .f32 0x3F4F5C29#32 ((81 / 100 : ℝ) : EReal)
  ∧ IdealRules.named_const.Statement Cert.KernelIdeal.κ "d1" .f32 0x3F666666#32 ((9 / 10 : ℝ) : EReal)
  ∧ IdealRules.named_const.Statement Cert.KernelIdeal.κ "inv_n" .f32 0x37A7C5AC#32 ((1 / 50000 : ℝ) : EReal)

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S1600000x4 : Shape := ⟨2, ![1600000, 4]⟩
abbrev S1600000 : Shape := ⟨1, ![1600000]⟩
abbrev S50000x128 : Shape := ⟨2, ![50000, 128]⟩
abbrev S2x1600000 : Shape := ⟨2, ![2, 1600000]⟩
abbrev S_ : Shape := ⟨0, ![]⟩

class Facts : Prop where
  bcast_S_S2x1600000 : S_.BroadcastsInDim S2x1600000 (![] : Fin 0 → Fin S2x1600000.rank)
  reducesTo_S2x1600000_S_d0_1 : S2x1600000.ReducesTo [0, 1] S_
  h_S_ : 0 < S_.numel

variable [Facts]

def fn {F : FTy → Type} [FloatOps F] (main_arg0 : FVec F S1600000x4 .f32) (main_arg1 : FVec F S1600000x4 .f32) (main_arg2 : FVec F S1600000 .f32) (main_arg3 : FVec F S50000x128 .f32) (main_arg4 : IVec S2x1600000 32) : IVec S_ 1 :=
  let main_c : IVec S_ 32 := constantI S_ 32 0#32
  let main_v0 : IVec S2x1600000 32 := broadcastInDim S2x1600000 ![] bcast_S_S2x1600000 main_c
  let main_v1 : IVec S2x1600000 1 := cmpi .sge main_arg4 main_v0
  let main_c_0 : IVec S_ 1 := constantI S_ 1 1#1
  let main_v2 : IVec S_ 1 := (fun x v => Host.reduce IntOp.andi x v reducesTo_S2x1600000_S_d0_1 h_S_) main_v1 main_c_0
  let main_c_1 : IVec S_ 32 := constantI S_ 32 50000#32
  let main_v3 : IVec S2x1600000 32 := broadcastInDim S2x1600000 ![] bcast_S_S2x1600000 main_c_1
  let main_v4 : IVec S2x1600000 1 := cmpi .slt main_arg4 main_v3
  let main_c_2 : IVec S_ 1 := constantI S_ 1 1#1
  let main_v5 : IVec S_ 1 := (fun x v => Host.reduce IntOp.andi x v reducesTo_S2x1600000_S_d0_1 h_S_) main_v4 main_c_2
  let main_v6 : IVec S_ 1 := andi main_v2 main_v5
  main_v6
-- ==== Kernel.lean ====
abbrev S1600000x4 : Shape := ⟨2, ![1600000, 4]⟩
abbrev S1600000 : Shape := ⟨1, ![1600000]⟩
abbrev S50000x128 : Shape := ⟨2, ![50000, 128]⟩
abbrev S2x1600000 : Shape := ⟨2, ![2, 1600000]⟩
abbrev S1x1600000 : Shape := ⟨2, ![1, 1600000]⟩
abbrev S_ : Shape := ⟨0, ![]⟩
abbrev S5632 : Shape := ⟨1, ![5632]⟩
abbrev S1605632 : Shape := ⟨1, ![1605632]⟩
abbrev S4x1600000 : Shape := ⟨2, ![4, 1600000]⟩
abbrev S4x5632 : Shape := ⟨2, ![4, 5632]⟩
abbrev S4x1605632 : Shape := ⟨2, ![4, 1605632]⟩
abbrev S50048 : Shape := ⟨1, ![50048]⟩
abbrev S4x2x32x50048 : Shape := ⟨4, ![4, 2, 32, 50048]⟩
abbrev S3136 : Shape := ⟨1, ![3136]⟩
abbrev S1x3136 : Shape := ⟨2, ![1, 3136]⟩
abbrev S16 : Shape := ⟨1, ![16]⟩
abbrev S1x1x1x50048 : Shape := ⟨4, ![1, 1, 1, 50048]⟩
abbrev S50000x1 : Shape := ⟨2, ![50000, 1]⟩
abbrev S50000 : Shape := ⟨1, ![50000]⟩
abbrev S48 : Shape := ⟨1, ![48]⟩
abbrev S1x50048 : Shape := ⟨2, ![1, 50048]⟩
abbrev S1x1x32x50048 : Shape := ⟨4, ![1, 1, 32, 50048]⟩
abbrev S32x50048 : Shape := ⟨2, ![32, 50048]⟩
abbrev S1x1 : Shape := ⟨2, ![1, 1]⟩
abbrev S32x2944 : Shape := ⟨2, ![32, 2944]⟩
abbrev S1x2944 : Shape := ⟨2, ![1, 2944]⟩
abbrev S2944 : Shape := ⟨1, ![2944]⟩
abbrev S1x1x2944 : Shape := ⟨3, ![1, 1, 2944]⟩
abbrev S1 : Shape := ⟨1, ![1]⟩
abbrev S1x1x1 : Shape := ⟨3, ![1, 1, 1]⟩

abbrev nBuf : Table → Nat
  | .hbm => 46
  | .local .tc .vmem => 18
  | .local .tc .smem => 1
  | .local .scVector .vmem => 8
  | _ => 0

abbrev bufTy : (tb : Table) → Fin (nBuf tb) → BufTy
  | .hbm, ⟨0, _⟩ => ⟨S1600000x4, .f32⟩
  | .hbm, ⟨1, _⟩ => ⟨S1600000x4, .f32⟩
  | .hbm, ⟨2, _⟩ => ⟨S1600000, .f32⟩
  | .hbm, ⟨3, _⟩ => ⟨S50000x128, .f32⟩
  | .hbm, ⟨4, _⟩ => ⟨S2x1600000, .i32⟩
  | .hbm, ⟨5, _⟩ => ⟨S1x1600000, .i32⟩
  | .hbm, ⟨6, _⟩ => ⟨S1600000, .i32⟩
  | .hbm, ⟨7, _⟩ => ⟨S_, .i32⟩
  | .hbm, ⟨8, _⟩ => ⟨S5632, .i32⟩
  | .hbm, ⟨9, _⟩ => ⟨S1605632, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S5632, .i32⟩
  | .hbm, ⟨14, _⟩ => ⟨S1605632, .i32⟩
  | .hbm, ⟨15, _⟩ => ⟨S4x1600000, .f32⟩
  | .hbm, ⟨16, _⟩ => ⟨S_, .f32⟩
  | .hbm, ⟨17, _⟩ => ⟨S4x5632, .f32⟩
  | .hbm, ⟨18, _⟩ => ⟨S4x1605632, .f32⟩
  | .hbm, ⟨19, _⟩ => ⟨S_, .f32⟩
  | .hbm, ⟨20, _⟩ => ⟨S50048, .f32⟩
  | .hbm, ⟨21, _⟩ => ⟨S4x2x32x50048, .f32⟩
  | .hbm, ⟨22, _⟩ => ⟨S50000x1, .f32⟩
  | .hbm, ⟨23, _⟩ => ⟨S50000, .f32⟩
  | .hbm, ⟨24, _⟩ => ⟨S_, .f32⟩
  | .hbm, ⟨25, _⟩ => ⟨S48, .f32⟩
  | .hbm, ⟨26, _⟩ => ⟨S50048, .f32⟩
  | .hbm, ⟨27, _⟩ => ⟨S1x50048, .f32⟩
  | .hbm, ⟨28, _⟩ => ⟨S1x1x32x50048, .f32⟩
  | .hbm, ⟨29, _⟩ => ⟨S32x50048, .f32⟩
  | .hbm, ⟨30, _⟩ => ⟨S1x1x32x50048, .f32⟩
  | .hbm, ⟨31, _⟩ => ⟨S32x50048, .f32⟩
  | .hbm, ⟨32, _⟩ => ⟨S1x1x32x50048, .f32⟩
  | .hbm, ⟨33, _⟩ => ⟨S32x50048, .f32⟩
  | .hbm, ⟨34, _⟩ => ⟨S1x1x32x50048, .f32⟩
  | .hbm, ⟨35, _⟩ => ⟨S32x50048, .f32⟩
  | .hbm, ⟨36, _⟩ => ⟨S1x1x32x50048, .f32⟩
  | .hbm, ⟨37, _⟩ => ⟨S32x50048, .f32⟩
  | .hbm, ⟨38, _⟩ => ⟨S1x1x32x50048, .f32⟩
  | .hbm, ⟨39, _⟩ => ⟨S32x50048, .f32⟩
  | .hbm, ⟨40, _⟩ => ⟨S1x1x32x50048, .f32⟩
  | .hbm, ⟨41, _⟩ => ⟨S32x50048, .f32⟩
  | .hbm, ⟨42, _⟩ => ⟨S1x1x32x50048, .f32⟩
  | .hbm, ⟨43, _⟩ => ⟨S32x50048, .f32⟩
  | .hbm, ⟨44, _⟩ => ⟨S1x1, .f32⟩
  | .hbm, ⟨45, _⟩ => ⟨S_, .f32⟩
  | .local .tc .vmem, ⟨0, _⟩ => ⟨S32x2944, .f32⟩
  | .local .tc .vmem, ⟨1, _⟩ => ⟨S32x2944, .f32⟩
  | .local .tc .vmem, ⟨2, _⟩ => ⟨S32x2944, .f32⟩
  | .local .tc .vmem, ⟨3, _⟩ => ⟨S32x2944, .f32⟩
  | .local .tc .vmem, ⟨4, _⟩ => ⟨S32x2944, .f32⟩
  | .local .tc .vmem, ⟨5, _⟩ => ⟨S32x2944, .f32⟩
  | .local .tc .vmem, ⟨6, _⟩ => ⟨S32x2944, .f32⟩
  | .local .tc .vmem, ⟨7, _⟩ => ⟨S32x2944, .f32⟩
  | .local .tc .vmem, ⟨8, _⟩ => ⟨S32x2944, .f32⟩
  | .local .tc .vmem, ⟨9, _⟩ => ⟨S32x2944, .f32⟩
  | .local .tc .vmem, ⟨10, _⟩ => ⟨S32x2944, .f32⟩
  | .local .tc .vmem, ⟨11, _⟩ => ⟨S32x2944, .f32⟩
  | .local .tc .vmem, ⟨12, _⟩ => ⟨S32x2944, .f32⟩
  | .local .tc .vmem, ⟨13, _⟩ => ⟨S32x2944, .f32⟩
  | .local .tc .vmem, ⟨14, _⟩ => ⟨S32x2944, .f32⟩
  | .local .tc .vmem, ⟨15, _⟩ => ⟨S32x2944, .f32⟩
  | .local .tc .vmem, ⟨16, _⟩ => ⟨S1x2944, .f32⟩
  | .local .tc .vmem, ⟨17, _⟩ => ⟨S1x2944, .f32⟩
  | .local .tc .smem, ⟨0, _⟩ => ⟨S1x1, .f32⟩
  | .local .scVector .vmem, ⟨0, _⟩ => ⟨S3136, .i32⟩
  | .local .scVector .vmem, ⟨1, _⟩ => ⟨S3136, .i32⟩
  | .local .scVector .vmem, ⟨2, _⟩ => ⟨S3136, .f32⟩
  | .local .scVector .vmem, ⟨3, _⟩ => ⟨S3136, .i32⟩
  | .local .scVector .vmem, ⟨4, _⟩ => ⟨S3136, .i32⟩
  | .local .scVector .vmem, ⟨5, _⟩ => ⟨S3136, .f32⟩
  | .local .scVector .vmem, ⟨6, _⟩ => ⟨S50048, .f32⟩
  | .local .scVector .vmem, ⟨7, _⟩ => ⟨S50048, .f32⟩
  | _, _ => ⟨S1600000x4, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 37 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTables nBuf rfl bufTy 4 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v3_scv : Ref sig .scVector := ⟨.hbm, 9, rfl⟩
abbrev main_v7_scv : Ref sig .scVector := ⟨.hbm, 14, rfl⟩
abbrev main_v10_scv : Ref sig .scVector := ⟨.hbm, 18, rfl⟩
abbrev main_v11_scv : Ref sig .scVector := ⟨.hbm, 20, rfl⟩
abbrev main_v12_scv : Ref sig .scVector := ⟨.hbm, 21, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg3_1 : Ref sig .tc := ⟨.vmem, 7, rfl⟩
abbrev cc1_stg4_0 : Ref sig .tc := ⟨.vmem, 8, rfl⟩
abbrev cc1_stg4_1 : Ref sig .tc := ⟨.vmem, 9, rfl⟩
abbrev cc1_stg5_0 : Ref sig .tc := ⟨.vmem, 10, rfl⟩
abbrev cc1_stg5_1 : Ref sig .tc := ⟨.vmem, 11, rfl⟩
abbrev cc1_stg6_0 : Ref sig .tc := ⟨.vmem, 12, rfl⟩
abbrev cc1_stg6_1 : Ref sig .tc := ⟨.vmem, 13, rfl⟩
abbrev cc1_stg7_0 : Ref sig .tc := ⟨.vmem, 14, rfl⟩
abbrev cc1_stg7_1 : Ref sig .tc := ⟨.vmem, 15, rfl⟩
abbrev cc1_stg8_0 : Ref sig .tc := ⟨.vmem, 16, rfl⟩
abbrev cc1_stg8_1 : Ref sig .tc := ⟨.vmem, 17, rfl⟩
abbrev cc1_stg9_0 : Ref sig .tc := ⟨.smem, 0, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch8 : Ref sig .scVector := ⟨.vmem, 6, rfl⟩
abbrev cc0_scratch9 : Ref sig .scVector := ⟨.vmem, 7, rfl⟩
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem3_1 : DmaSem sig := 25
abbrev cc1_sem4_0 : DmaSem sig := 26
abbrev cc1_sem4_1 : DmaSem sig := 27
abbrev cc1_sem5_0 : DmaSem sig := 28
abbrev cc1_sem5_1 : DmaSem sig := 29
abbrev cc1_sem6_0 : DmaSem sig := 30
abbrev cc1_sem6_1 : DmaSem sig := 31
abbrev cc1_sem7_0 : DmaSem sig := 32
abbrev cc1_sem7_1 : DmaSem sig := 33
abbrev cc1_sem8_0 : DmaSem sig := 34
abbrev cc1_sem8_1 : DmaSem sig := 35
abbrev cc1_sem9_0 : DmaSem sig := 36
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32 : BitVec 32 := 0#32
  let c8_i32 : BitVec 32 := 8#32
  let v3 : BitVec 32 := Scalar.addi c0_i32 c8_i32
  let c1_i32 : BitVec 32 := 1#32
  ⟨c0_i32, v3, c1_i32⟩
def k0_off1 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c50176_i32 : BitVec 32 := 50176#32
  let v2 : BitVec 32 := Scalar.muli v1 c50176_i32
  let c2_i32_28 : BitVec 32 := 2#32
  let c0_i32 : BitVec 32 := 0#32
  let c1_i32 : BitVec 32 := 1#32
  let arg17 : BitVec 32 := Scf.iv c0_i32 c1_i32 k0_t1
  let v7 : BitVec 32 := Scalar.muli c2_i32_28 arg17
  let c3136_i32 : BitVec 32 := 3136#32
  let v8 : BitVec 32 := Scalar.muli v7 c3136_i32
  let v9 : BitVec 32 := Scalar.addi v2 v8
  ![v9.toNat]
def k0_off2 (i : grid0.Coords) (k0_t1 : Fin k0_t1_loop.trips) : Fin 2 → Nat :=
  let c0_i32_30 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c50176_i32 : BitVec 32 := 50176#32
  let v2 : BitVec 32 := Scalar.muli v1 c50176_i32
  let c2_i32_28 : BitVec 32 := 2#32
  let c0_i32 : BitVec 32 := 0#32
  let c1_i32 : BitVec 32 := 1#32
  let arg17 : BitVec 32 := Scf.iv c0_i32 c1_i32 k0_t1
  let v7 : BitVec 32 := Scalar.muli c2_i32_28 arg17
  let c3136_i32 : BitVec 32 := 3136#32
  let v8 : BitVec 32 := Scalar.muli v7 c3136_i32
  let v9 : BitVec 32 := Scalar.addi v2 v8
  ![0, v9.toNat]
def k0_off3 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c50176_i32 : BitVec 32 := 50176#32
  let v2 : BitVec 32 := Scalar.muli v1 c50176_i32
  let c2_i32_28 : BitVec 32 := 2#32
  let c0_i32 : BitVec 32 := 0#32
  let c1_i32 : BitVec 32 := 1#32
  let arg17 : BitVec 32 := Scf.iv c0_i32 c1_i32 k0_t1
  let v7 : BitVec 32 := Scalar.muli c2_i32_28 arg17
  let c3136_i32 : BitVec 32 := 3136#32
  let v8 : BitVec 32 := Scalar.muli v7 c3136_i32
  let v9 : BitVec 32 := Scalar.addi v2 v8
  let c3136_i32_29 : BitVec 32 := 3136#32
  let v10 : BitVec 32 := Scalar.addi v9 c3136_i32_29
  ![v10.toNat]
def k0_off4 (i : grid0.Coords) (k0_t1 : Fin k0_t1_loop.trips) : Fin 2 → Nat :=
  let c0_i32_31 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c50176_i32 : BitVec 32 := 50176#32
  let v2 : BitVec 32 := Scalar.muli v1 c50176_i32
  let c2_i32_28 : BitVec 32 := 2#32
  let c0_i32 : BitVec 32 := 0#32
  let c1_i32 : BitVec 32 := 1#32
  let arg17 : BitVec 32 := Scf.iv c0_i32 c1_i32 k0_t1
  let v7 : BitVec 32 := Scalar.muli c2_i32_28 arg17
  let c3136_i32 : BitVec 32 := 3136#32
  let v8 : BitVec 32 := Scalar.muli v7 c3136_i32
  let v9 : BitVec 32 := Scalar.addi v2 v8
  let c3136_i32_29 : BitVec 32 := 3136#32
  let v10 : BitVec 32 := Scalar.addi v9 c3136_i32_29
  ![0, v10.toNat]
@[reducible] def k0_t2_loop : Scf.Loop 32 :=
  let c0_i32_33 : BitVec 32 := 0#32
  let c196_i32 : BitVec 32 := 196#32
  let v35 : BitVec 32 := Scalar.addi c0_i32_33 c196_i32
  let c1_i32_34 : BitVec 32 := 1#32
  ⟨c0_i32_33, v35, c1_i32_34⟩
def k0_off5 (k0_t2 : Fin k0_t2_loop.trips) : Fin 1 → Nat :=
  let c0_i32_33 : BitVec 32 := 0#32
  let c1_i32_34 : BitVec 32 := 1#32
  let arg18 : BitVec 32 := Scf.iv c0_i32_33 c1_i32_34 k0_t2
  let c16_i32 : BitVec 32 := 16#32
  let v45 : BitVec 32 := Scalar.muli arg18 c16_i32
  let v46 : Index := Scalar.indexCast v45
  ![v46.toNat]

def k0_chk1 (v47 : IVec S16 32) : Prop :=
  (∀ a x, ((![v47] : Fin 1 → IVec S16 32) a x).toNat < S50048.size a)
theorem k0_idx1_inb : ∀ (v47 : IVec S16 32) (k0_hw1 : k0_chk1 v47), ∀ a x, ((![v47] : Fin 1 → IVec S16 32) a x).toNat < S50048.size a := fun v47 k0_hw1 => k0_hw1

def k0_chk2 (v50 : IVec S16 32) : Prop :=
  (∀ a x, ((![v50] : Fin 1 → IVec S16 32) a x).toNat < S50048.size a)
theorem k0_idx2_inb : ∀ (v50 : IVec S16 32) (k0_hw2 : k0_chk2 v50), ∀ a x, ((![v50] : Fin 1 → IVec S16 32) a x).toNat < S50048.size a := fun v50 k0_hw2 => k0_hw2
@[reducible] def k0_t3_loop : Scf.Loop 32 :=
  let c0_i32_37 : BitVec 32 := 0#32
  let c196_i32_38 : BitVec 32 := 196#32
  let v44 : BitVec 32 := Scalar.addi c0_i32_37 c196_i32_38
  let c1_i32_39 : BitVec 32 := 1#32
  ⟨c0_i32_37, v44, c1_i32_39⟩
def k0_off6 (k0_t3 : Fin k0_t3_loop.trips) : Fin 1 → Nat :=
  let c0_i32_37 : BitVec 32 := 0#32
  let c1_i32_39 : BitVec 32 := 1#32
  let arg18 : BitVec 32 := Scf.iv c0_i32_37 c1_i32_39 k0_t3
  let c16_i32 : BitVec 32 := 16#32
  let v45 : BitVec 32 := Scalar.muli arg18 c16_i32
  let v46 : Index := Scalar.indexCast v45
  ![v46.toNat]

def k0_chk3 (v47 : IVec S16 32) : Prop :=
  (∀ a x, ((![v47] : Fin 1 → IVec S16 32) a x).toNat < S50048.size a)
theorem k0_idx3_inb : ∀ (v47 : IVec S16 32) (k0_hw3 : k0_chk3 v47), ∀ a x, ((![v47] : Fin 1 → IVec S16 32) a x).toNat < S50048.size a := fun v47 k0_hw3 => k0_hw3

def k0_chk4 (v50 : IVec S16 32) : Prop :=
  (∀ a x, ((![v50] : Fin 1 → IVec S16 32) a x).toNat < S50048.size a)
theorem k0_idx4_inb : ∀ (v50 : IVec S16 32) (k0_hw4 : k0_chk4 v50), ∀ a x, ((![v50] : Fin 1 → IVec S16 32) a x).toNat < S50048.size a := fun v50 k0_hw4 => k0_hw4
def k0_off7 (i : grid0.Coords) : Fin 4 → Nat :=
  let c0_i32_1 : BitVec 32 := 0#32
  let c0_i32_2 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_28_r2 : BitVec 32 := 0#32
  ![0, 0, v1.toNat, 0]
def k0_off8 (i : grid0.Coords) : Fin 4 → Nat :=
  let c0_i32_3 : BitVec 32 := 0#32
  let c1_i32_4 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_28_r3 : BitVec 32 := 0#32
  ![0, 1, v1.toNat, 0]
@[reducible] def k0_t4_loop : Scf.Loop 32 :=
  let c0_i32_5 : BitVec 32 := 0#32
  let c8_i32_6 : BitVec 32 := 8#32
  let v4 : BitVec 32 := Scalar.addi c0_i32_5 c8_i32_6
  let c1_i32_7 : BitVec 32 := 1#32
  ⟨c0_i32_5, v4, c1_i32_7⟩
def k0_off9 (i : grid0.Coords) (k0_t4 : Fin k0_t4_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c50176_i32 : BitVec 32 := 50176#32
  let v2 : BitVec 32 := Scalar.muli v1 c50176_i32
  let c2_i32_28 : BitVec 32 := 2#32
  let c0_i32_5 : BitVec 32 := 0#32
  let c1_i32_7 : BitVec 32 := 1#32
  let arg17 : BitVec 32 := Scf.iv c0_i32_5 c1_i32_7 k0_t4
  let v7 : BitVec 32 := Scalar.muli c2_i32_28 arg17
  let c3136_i32 : BitVec 32 := 3136#32
  let v8 : BitVec 32 := Scalar.muli v7 c3136_i32
  let v9 : BitVec 32 := Scalar.addi v2 v8
  ![v9.toNat]
def k0_off10 (i : grid0.Coords) (k0_t4 : Fin k0_t4_loop.trips) : Fin 2 → Nat :=
  let c1_i32_30 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c50176_i32 : BitVec 32 := 50176#32
  let v2 : BitVec 32 := Scalar.muli v1 c50176_i32
  let c2_i32_28 : BitVec 32 := 2#32
  let c0_i32_5 : BitVec 32 := 0#32
  let c1_i32_7 : BitVec 32 := 1#32
  let arg17 : BitVec 32 := Scf.iv c0_i32_5 c1_i32_7 k0_t4
  let v7 : BitVec 32 := Scalar.muli c2_i32_28 arg17
  let c3136_i32 : BitVec 32 := 3136#32
  let v8 : BitVec 32 := Scalar.muli v7 c3136_i32
  let v9 : BitVec 32 := Scalar.addi v2 v8
  ![1, v9.toNat]
def k0_off11 (i : grid0.Coords) (k0_t4 : Fin k0_t4_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c50176_i32 : BitVec 32 := 50176#32
  let v2 : BitVec 32 := Scalar.muli v1 c50176_i32
  let c2_i32_28 : BitVec 32 := 2#32
  let c0_i32_5 : BitVec 32 := 0#32
  let c1_i32_7 : BitVec 32 := 1#32
  let arg17 : BitVec 32 := Scf.iv c0_i32_5 c1_i32_7 k0_t4
  let v7 : BitVec 32 := Scalar.muli c2_i32_28 arg17
  let c3136_i32 : BitVec 32 := 3136#32
  let v8 : BitVec 32 := Scalar.muli v7 c3136_i32
  let v9 : BitVec 32 := Scalar.addi v2 v8
  let c3136_i32_29 : BitVec 32 := 3136#32
  let v10 : BitVec 32 := Scalar.addi v9 c3136_i32_29
  ![v10.toNat]
def k0_off12 (i : grid0.Coords) (k0_t4 : Fin k0_t4_loop.trips) : Fin 2 → Nat :=
  let c1_i32_31 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c50176_i32 : BitVec 32 := 50176#32
  let v2 : BitVec 32 := Scalar.muli v1 c50176_i32
  let c2_i32_28 : BitVec 32 := 2#32
  let c0_i32_5 : BitVec 32 := 0#32
  let c1_i32_7 : BitVec 32 := 1#32
  let arg17 : BitVec 32 := Scf.iv c0_i32_5 c1_i32_7 k0_t4
  let v7 : BitVec 32 := Scalar.muli c2_i32_28 arg17
  let c3136_i32 : BitVec 32 := 3136#32
  let v8 : BitVec 32 := Scalar.muli v7 c3136_i32
  let v9 : BitVec 32 := Scalar.addi v2 v8
  let c3136_i32_29 : BitVec 32 := 3136#32
  let v10 : BitVec 32 := Scalar.addi v9 c3136_i32_29
  ![1, v10.toNat]
@[reducible] def k0_t5_loop : Scf.Loop 32 :=
  let c0_i32_33 : BitVec 32 := 0#32
  let c196_i32 : BitVec 32 := 196#32
  let v35 : BitVec 32 := Scalar.addi c0_i32_33 c196_i32
  let c1_i32_34 : BitVec 32 := 1#32
  ⟨c0_i32_33, v35, c1_i32_34⟩
def k0_off13 (k0_t5 : Fin k0_t5_loop.trips) : Fin 1 → Nat :=
  let c0_i32_33 : BitVec 32 := 0#32
  let c1_i32_34 : BitVec 32 := 1#32
  let arg18 : BitVec 32 := Scf.iv c0_i32_33 c1_i32_34 k0_t5
  let c16_i32 : BitVec 32 := 16#32
  let v45 : BitVec 32 := Scalar.muli arg18 c16_i32
  let v46 : Index := Scalar.indexCast v45
  ![v46.toNat]

def k0_chk5 (v47 : IVec S16 32) : Prop :=
  (∀ a x, ((![v47] : Fin 1 → IVec S16 32) a x).toNat < S50048.size a)
theorem k0_idx5_inb : ∀ (v47 : IVec S16 32) (k0_hw5 : k0_chk5 v47), ∀ a x, ((![v47] : Fin 1 → IVec S16 32) a x).toNat < S50048.size a := fun v47 k0_hw5 => k0_hw5

def k0_chk6 (v50 : IVec S16 32) : Prop :=
  (∀ a x, ((![v50] : Fin 1 → IVec S16 32) a x).toNat < S50048.size a)
theorem k0_idx6_inb : ∀ (v50 : IVec S16 32) (k0_hw6 : k0_chk6 v50), ∀ a x, ((![v50] : Fin 1 → IVec S16 32) a x).toNat < S50048.size a := fun v50 k0_hw6 => k0_hw6
@[reducible] def k0_t6_loop : Scf.Loop 32 :=
  let c0_i32_37 : BitVec 32 := 0#32
  let c196_i32_38 : BitVec 32 := 196#32
  let v44 : BitVec 32 := Scalar.addi c0_i32_37 c196_i32_38
  let c1_i32_39 : BitVec 32 := 1#32
  ⟨c0_i32_37, v44, c1_i32_39⟩
def k0_off14 (k0_t6 : Fin k0_t6_loop.trips) : Fin 1 → Nat :=
  let c0_i32_37 : BitVec 32 := 0#32
  let c1_i32_39 : BitVec 32 := 1#32
  let arg18 : BitVec 32 := Scf.iv c0_i32_37 c1_i32_39 k0_t6
  let c16_i32 : BitVec 32 := 16#32
  let v45 : BitVec 32 := Scalar.muli arg18 c16_i32
  let v46 : Index := Scalar.indexCast v45
  ![v46.toNat]

def k0_chk7 (v47 : IVec S16 32) : Prop :=
  (∀ a x, ((![v47] : Fin 1 → IVec S16 32) a x).toNat < S50048.size a)
theorem k0_idx7_inb : ∀ (v47 : IVec S16 32) (k0_hw7 : k0_chk7 v47), ∀ a x, ((![v47] : Fin 1 → IVec S16 32) a x).toNat < S50048.size a := fun v47 k0_hw7 => k0_hw7

def k0_chk8 (v50 : IVec S16 32) : Prop :=
  (∀ a x, ((![v50] : Fin 1 → IVec S16 32) a x).toNat < S50048.size a)
theorem k0_idx8_inb : ∀ (v50 : IVec S16 32) (k0_hw8 : k0_chk8 v50), ∀ a x, ((![v50] : Fin 1 → IVec S16 32) a x).toNat < S50048.size a := fun v50 k0_hw8 => k0_hw8
def k0_off15 (i : grid0.Coords) : Fin 4 → Nat :=
  let c1_i32_9 : BitVec 32 := 1#32
  let c0_i32_10 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_28_r6 : BitVec 32 := 0#32
  ![1, 0, v1.toNat, 0]
def k0_off16 (i : grid0.Coords) : Fin 4 → Nat :=
  let c1_i32_11 : BitVec 32 := 1#32
  let c1_i32_12 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_28_r7 : BitVec 32 := 0#32
  ![1, 1, v1.toNat, 0]
@[reducible] def k0_t7_loop : Scf.Loop 32 :=
  let c0_i32_13 : BitVec 32 := 0#32
  let c8_i32_14 : BitVec 32 := 8#32
  let v5 : BitVec 32 := Scalar.addi c0_i32_13 c8_i32_14
  let c1_i32_15 : BitVec 32 := 1#32
  ⟨c0_i32_13, v5, c1_i32_15⟩
def k0_off17 (i : grid0.Coords) (k0_t7 : Fin k0_t7_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c50176_i32 : BitVec 32 := 50176#32
  let v2 : BitVec 32 := Scalar.muli v1 c50176_i32
  let c2_i32_28 : BitVec 32 := 2#32
  let c0_i32_13 : BitVec 32 := 0#32
  let c1_i32_15 : BitVec 32 := 1#32
  let arg17 : BitVec 32 := Scf.iv c0_i32_13 c1_i32_15 k0_t7
  let v7 : BitVec 32 := Scalar.muli c2_i32_28 arg17
  let c3136_i32 : BitVec 32 := 3136#32
  let v8 : BitVec 32 := Scalar.muli v7 c3136_i32
  let v9 : BitVec 32 := Scalar.addi v2 v8
  ![v9.toNat]
def k0_off18 (i : grid0.Coords) (k0_t7 : Fin k0_t7_loop.trips) : Fin 2 → Nat :=
  let c2_i32_30 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c50176_i32 : BitVec 32 := 50176#32
  let v2 : BitVec 32 := Scalar.muli v1 c50176_i32
  let c2_i32_28 : BitVec 32 := 2#32
  let c0_i32_13 : BitVec 32 := 0#32
  let c1_i32_15 : BitVec 32 := 1#32
  let arg17 : BitVec 32 := Scf.iv c0_i32_13 c1_i32_15 k0_t7
  let v7 : BitVec 32 := Scalar.muli c2_i32_28 arg17
  let c3136_i32 : BitVec 32 := 3136#32
  let v8 : BitVec 32 := Scalar.muli v7 c3136_i32
  let v9 : BitVec 32 := Scalar.addi v2 v8
  ![2, v9.toNat]
def k0_off19 (i : grid0.Coords) (k0_t7 : Fin k0_t7_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c50176_i32 : BitVec 32 := 50176#32
  let v2 : BitVec 32 := Scalar.muli v1 c50176_i32
  let c2_i32_28 : BitVec 32 := 2#32
  let c0_i32_13 : BitVec 32 := 0#32
  let c1_i32_15 : BitVec 32 := 1#32
  let arg17 : BitVec 32 := Scf.iv c0_i32_13 c1_i32_15 k0_t7
  let v7 : BitVec 32 := Scalar.muli c2_i32_28 arg17
  let c3136_i32 : BitVec 32 := 3136#32
  let v8 : BitVec 32 := Scalar.muli v7 c3136_i32
  let v9 : BitVec 32 := Scalar.addi v2 v8
  let c3136_i32_29 : BitVec 32 := 3136#32
  let v10 : BitVec 32 := Scalar.addi v9 c3136_i32_29
  ![v10.toNat]
def k0_off20 (i : grid0.Coords) (k0_t7 : Fin k0_t7_loop.trips) : Fin 2 → Nat :=
  let c2_i32_31 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c50176_i32 : BitVec 32 := 50176#32
  let v2 : BitVec 32 := Scalar.muli v1 c50176_i32
  let c2_i32_28 : BitVec 32 := 2#32
  let c0_i32_13 : BitVec 32 := 0#32
  let c1_i32_15 : BitVec 32 := 1#32
  let arg17 : BitVec 32 := Scf.iv c0_i32_13 c1_i32_15 k0_t7
  let v7 : BitVec 32 := Scalar.muli c2_i32_28 arg17
  let c3136_i32 : BitVec 32 := 3136#32
  let v8 : BitVec 32 := Scalar.muli v7 c3136_i32
  let v9 : BitVec 32 := Scalar.addi v2 v8
  let c3136_i32_29 : BitVec 32 := 3136#32
  let v10 : BitVec 32 := Scalar.addi v9 c3136_i32_29
  ![2, v10.toNat]
@[reducible] def k0_t8_loop : Scf.Loop 32 :=
  let c0_i32_33 : BitVec 32 := 0#32
  let c196_i32 : BitVec 32 := 196#32
  let v35 : BitVec 32 := Scalar.addi c0_i32_33 c196_i32
  let c1_i32_34 : BitVec 32 := 1#32
  ⟨c0_i32_33, v35, c1_i32_34⟩
def k0_off21 (k0_t8 : Fin k0_t8_loop.trips) : Fin 1 → Nat :=
  let c0_i32_33 : BitVec 32 := 0#32
  let c1_i32_34 : BitVec 32 := 1#32
  let arg18 : BitVec 32 := Scf.iv c0_i32_33 c1_i32_34 k0_t8
  let c16_i32 : BitVec 32 := 16#32
  let v45 : BitVec 32 := Scalar.muli arg18 c16_i32
  let v46 : Index := Scalar.indexCast v45
  ![v46.toNat]

def k0_chk9 (v47 : IVec S16 32) : Prop :=
  (∀ a x, ((![v47] : Fin 1 → IVec S16 32) a x).toNat < S50048.size a)
theorem k0_idx9_inb : ∀ (v47 : IVec S16 32) (k0_hw9 : k0_chk9 v47), ∀ a x, ((![v47] : Fin 1 → IVec S16 32) a x).toNat < S50048.size a := fun v47 k0_hw9 => k0_hw9

def k0_chk10 (v50 : IVec S16 32) : Prop :=
  (∀ a x, ((![v50] : Fin 1 → IVec S16 32) a x).toNat < S50048.size a)
theorem k0_idx10_inb : ∀ (v50 : IVec S16 32) (k0_hw10 : k0_chk10 v50), ∀ a x, ((![v50] : Fin 1 → IVec S16 32) a x).toNat < S50048.size a := fun v50 k0_hw10 => k0_hw10
@[reducible] def k0_t9_loop : Scf.Loop 32 :=
  let c0_i32_37 : BitVec 32 := 0#32
  let c196_i32_38 : BitVec 32 := 196#32
  let v44 : BitVec 32 := Scalar.addi c0_i32_37 c196_i32_38
  let c1_i32_39 : BitVec 32 := 1#32
  ⟨c0_i32_37, v44, c1_i32_39⟩
def k0_off22 (k0_t9 : Fin k0_t9_loop.trips) : Fin 1 → Nat :=
  let c0_i32_37 : BitVec 32 := 0#32
  let c1_i32_39 : BitVec 32 := 1#32
  let arg18 : BitVec 32 := Scf.iv c0_i32_37 c1_i32_39 k0_t9
  let c16_i32 : BitVec 32 := 16#32
  let v45 : BitVec 32 := Scalar.muli arg18 c16_i32
  let v46 : Index := Scalar.indexCast v45
  ![v46.toNat]

def k0_chk11 (v47 : IVec S16 32) : Prop :=
  (∀ a x, ((![v47] : Fin 1 → IVec S16 32) a x).toNat < S50048.size a)
theorem k0_idx11_inb : ∀ (v47 : IVec S16 32) (k0_hw11 : k0_chk11 v47), ∀ a x, ((![v47] : Fin 1 → IVec S16 32) a x).toNat < S50048.size a := fun v47 k0_hw11 => k0_hw11

def k0_chk12 (v50 : IVec S16 32) : Prop :=
  (∀ a x, ((![v50] : Fin 1 → IVec S16 32) a x).toNat < S50048.size a)
theorem k0_idx12_inb : ∀ (v50 : IVec S16 32) (k0_hw12 : k0_chk12 v50), ∀ a x, ((![v50] : Fin 1 → IVec S16 32) a x).toNat < S50048.size a := fun v50 k0_hw12 => k0_hw12
def k0_off23 (i : grid0.Coords) : Fin 4 → Nat :=
  let c2_i32_17 : BitVec 32 := 2#32
  let c0_i32_18 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_28_r10 : BitVec 32 := 0#32
  ![2, 0, v1.toNat, 0]
def k0_off24 (i : grid0.Coords) : Fin 4 → Nat :=
  let c2_i32_19 : BitVec 32 := 2#32
  let c1_i32_20 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_28_r11 : BitVec 32 := 0#32
  ![2, 1, v1.toNat, 0]
@[reducible] def k0_t10_loop : Scf.Loop 32 :=
  let c0_i32_21 : BitVec 32 := 0#32
  let c8_i32_22 : BitVec 32 := 8#32
  let v6 : BitVec 32 := Scalar.addi c0_i32_21 c8_i32_22
  let c1_i32_23 : BitVec 32 := 1#32
  ⟨c0_i32_21, v6, c1_i32_23⟩
def k0_off25 (i : grid0.Coords) (k0_t10 : Fin k0_t10_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c50176_i32 : BitVec 32 := 50176#32
  let v2 : BitVec 32 := Scalar.muli v1 c50176_i32
  let c2_i32_28 : BitVec 32 := 2#32
  let c0_i32_21 : BitVec 32 := 0#32
  let c1_i32_23 : BitVec 32 := 1#32
  let arg17 : BitVec 32 := Scf.iv c0_i32_21 c1_i32_23 k0_t10
  let v7 : BitVec 32 := Scalar.muli c2_i32_28 arg17
  let c3136_i32 : BitVec 32 := 3136#32
  let v8 : BitVec 32 := Scalar.muli v7 c3136_i32
  let v9 : BitVec 32 := Scalar.addi v2 v8
  ![v9.toNat]
def k0_off26 (i : grid0.Coords) (k0_t10 : Fin k0_t10_loop.trips) : Fin 2 → Nat :=
  let c3_i32_30 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c50176_i32 : BitVec 32 := 50176#32
  let v2 : BitVec 32 := Scalar.muli v1 c50176_i32
  let c2_i32_28 : BitVec 32 := 2#32
  let c0_i32_21 : BitVec 32 := 0#32
  let c1_i32_23 : BitVec 32 := 1#32
  let arg17 : BitVec 32 := Scf.iv c0_i32_21 c1_i32_23 k0_t10
  let v7 : BitVec 32 := Scalar.muli c2_i32_28 arg17
  let c3136_i32 : BitVec 32 := 3136#32
  let v8 : BitVec 32 := Scalar.muli v7 c3136_i32
  let v9 : BitVec 32 := Scalar.addi v2 v8
  ![3, v9.toNat]
def k0_off27 (i : grid0.Coords) (k0_t10 : Fin k0_t10_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c50176_i32 : BitVec 32 := 50176#32
  let v2 : BitVec 32 := Scalar.muli v1 c50176_i32
  let c2_i32_28 : BitVec 32 := 2#32
  let c0_i32_21 : BitVec 32 := 0#32
  let c1_i32_23 : BitVec 32 := 1#32
  let arg17 : BitVec 32 := Scf.iv c0_i32_21 c1_i32_23 k0_t10
  let v7 : BitVec 32 := Scalar.muli c2_i32_28 arg17
  let c3136_i32 : BitVec 32 := 3136#32
  let v8 : BitVec 32 := Scalar.muli v7 c3136_i32
  let v9 : BitVec 32 := Scalar.addi v2 v8
  let c3136_i32_29 : BitVec 32 := 3136#32
  let v10 : BitVec 32 := Scalar.addi v9 c3136_i32_29
  ![v10.toNat]
def k0_off28 (i : grid0.Coords) (k0_t10 : Fin k0_t10_loop.trips) : Fin 2 → Nat :=
  let c3_i32_31 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c50176_i32 : BitVec 32 := 50176#32
  let v2 : BitVec 32 := Scalar.muli v1 c50176_i32
  let c2_i32_28 : BitVec 32 := 2#32
  let c0_i32_21 : BitVec 32 := 0#32
  let c1_i32_23 : BitVec 32 := 1#32
  let arg17 : BitVec 32 := Scf.iv c0_i32_21 c1_i32_23 k0_t10
  let v7 : BitVec 32 := Scalar.muli c2_i32_28 arg17
  let c3136_i32 : BitVec 32 := 3136#32
  let v8 : BitVec 32 := Scalar.muli v7 c3136_i32
  let v9 : BitVec 32 := Scalar.addi v2 v8
  let c3136_i32_29 : BitVec 32 := 3136#32
  let v10 : BitVec 32 := Scalar.addi v9 c3136_i32_29
  ![3, v10.toNat]
@[reducible] def k0_t11_loop : Scf.Loop 32 :=
  let c0_i32_33 : BitVec 32 := 0#32
  let c196_i32 : BitVec 32 := 196#32
  let v35 : BitVec 32 := Scalar.addi c0_i32_33 c196_i32
  let c1_i32_34 : BitVec 32 := 1#32
  ⟨c0_i32_33, v35, c1_i32_34⟩
def k0_off29 (k0_t11 : Fin k0_t11_loop.trips) : Fin 1 → Nat :=
  let c0_i32_33 : BitVec 32 := 0#32
  let c1_i32_34 : BitVec 32 := 1#32
  let arg18 : BitVec 32 := Scf.iv c0_i32_33 c1_i32_34 k0_t11
  let c16_i32 : BitVec 32 := 16#32
  let v45 : BitVec 32 := Scalar.muli arg18 c16_i32
  let v46 : Index := Scalar.indexCast v45
  ![v46.toNat]

def k0_chk13 (v47 : IVec S16 32) : Prop :=
  (∀ a x, ((![v47] : Fin 1 → IVec S16 32) a x).toNat < S50048.size a)
theorem k0_idx13_inb : ∀ (v47 : IVec S16 32) (k0_hw13 : k0_chk13 v47), ∀ a x, ((![v47] : Fin 1 → IVec S16 32) a x).toNat < S50048.size a := fun v47 k0_hw13 => k0_hw13

def k0_chk14 (v50 : IVec S16 32) : Prop :=
  (∀ a x, ((![v50] : Fin 1 → IVec S16 32) a x).toNat < S50048.size a)
theorem k0_idx14_inb : ∀ (v50 : IVec S16 32) (k0_hw14 : k0_chk14 v50), ∀ a x, ((![v50] : Fin 1 → IVec S16 32) a x).toNat < S50048.size a := fun v50 k0_hw14 => k0_hw14
@[reducible] def k0_t12_loop : Scf.Loop 32 :=
  let c0_i32_37 : BitVec 32 := 0#32
  let c196_i32_38 : BitVec 32 := 196#32
  let v44 : BitVec 32 := Scalar.addi c0_i32_37 c196_i32_38
  let c1_i32_39 : BitVec 32 := 1#32
  ⟨c0_i32_37, v44, c1_i32_39⟩
def k0_off30 (k0_t12 : Fin k0_t12_loop.trips) : Fin 1 → Nat :=
  let c0_i32_37 : BitVec 32 := 0#32
  let c1_i32_39 : BitVec 32 := 1#32
  let arg18 : BitVec 32 := Scf.iv c0_i32_37 c1_i32_39 k0_t12
  let c16_i32 : BitVec 32 := 16#32
  let v45 : BitVec 32 := Scalar.muli arg18 c16_i32
  let v46 : Index := Scalar.indexCast v45
  ![v46.toNat]

def k0_chk15 (v47 : IVec S16 32) : Prop :=
  (∀ a x, ((![v47] : Fin 1 → IVec S16 32) a x).toNat < S50048.size a)
theorem k0_idx15_inb : ∀ (v47 : IVec S16 32) (k0_hw15 : k0_chk15 v47), ∀ a x, ((![v47] : Fin 1 → IVec S16 32) a x).toNat < S50048.size a := fun v47 k0_hw15 => k0_hw15

def k0_chk16 (v50 : IVec S16 32) : Prop :=
  (∀ a x, ((![v50] : Fin 1 → IVec S16 32) a x).toNat < S50048.size a)
theorem k0_idx16_inb : ∀ (v50 : IVec S16 32) (k0_hw16 : k0_chk16 v50), ∀ a x, ((![v50] : Fin 1 → IVec S16 32) a x).toNat < S50048.size a := fun v50 k0_hw16 => k0_hw16
def k0_off31 (i : grid0.Coords) : Fin 4 → Nat :=
  let c3_i32 : BitVec 32 := 3#32
  let c0_i32_25 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_28_r14 : BitVec 32 := 0#32
  ![3, 0, v1.toNat, 0]
def k0_off32 (i : grid0.Coords) : Fin 4 → Nat :=
  let c3_i32_26 : BitVec 32 := 3#32
  let c1_i32_27 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_28_r15 : BitVec 32 := 0#32
  ![3, 1, v1.toNat, 0]
abbrev grid1 : Pipeline.Grid := ⟨1, ![17], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S32x2944 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S32x2944 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S32x2944 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S32x2944 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S32x2944 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S32x2944 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S32x2944 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S32x2944 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S1x2944 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 1 → Memref sig .tc .smem S1x1 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "d1" => some ((9 / 10 : ℝ) : EReal)
  | "d2" => some ((81 / 100 : ℝ) : EReal)
  | "d3" => some ((729 / 1000 : ℝ) : EReal)
  | "d4" => some ((6561 / 10000 : ℝ) : EReal)
  | "inv_n" => some ((1 / 50000 : ℝ) : EReal)
  | _ => none
-- ==== ReferenceIdeal.lean ====
abbrev S1600000x4 : Shape := ⟨2, ![1600000, 4]⟩
abbrev S1600000 : Shape := ⟨1, ![1600000]⟩
abbrev S50000x128 : Shape := ⟨2, ![50000, 128]⟩
abbrev S2x1600000 : Shape := ⟨2, ![2, 1600000]⟩
abbrev S1x1600000 : Shape := ⟨2, ![1, 1600000]⟩
abbrev S_ : Shape := ⟨0, ![]⟩
abbrev S50000x4 : Shape := ⟨2, ![50000, 4]⟩
abbrev S1600000x1 : Shape := ⟨2, ![1600000, 1]⟩
abbrev S50000x1 : Shape := ⟨2, ![50000, 1]⟩
abbrev S50000 : Shape := ⟨1, ![50000]⟩
abbrev S50000x1x4 : Shape := ⟨3, ![50000, 1, 4]⟩
abbrev S4 : Shape := ⟨1, ![4]⟩
abbrev S1x4 : Shape := ⟨2, ![1, 4]⟩

abbrev nBuf : Space → Nat
  | .hbm => 50
  | .vmem => 0
  | .smem => 0
  | _ => 0

abbrev bufTy : (tb : Table) → Fin (tcTables nBuf tb) → BufTy
  | .hbm, ⟨0, _⟩ => ⟨S1600000x4, .f32⟩
  | .hbm, ⟨1, _⟩ => ⟨S1600000x4, .f32⟩
  | .hbm, ⟨2, _⟩ => ⟨S1600000, .f32⟩
  | .hbm, ⟨3, _⟩ => ⟨S50000x128, .f32⟩
  | .hbm, ⟨4, _⟩ => ⟨S2x1600000, .i32⟩
  | .hbm, ⟨5, _⟩ => ⟨S1x1600000, .i32⟩
  | .hbm, ⟨6, _⟩ => ⟨S1600000, .i32⟩
  | .hbm, ⟨7, _⟩ => ⟨S1x1600000, .i32⟩
  | .hbm, ⟨8, _⟩ => ⟨S1600000, .i32⟩
  | .hbm, ⟨9, _⟩ => ⟨S_, .f32⟩
  | .hbm, ⟨10, _⟩ => ⟨S50000x4, .f32⟩
  | .hbm, ⟨11, _⟩ => ⟨S1600000x1, .i32⟩
  | .hbm, ⟨12, _⟩ => ⟨S50000x4, .f32⟩
  | .hbm, ⟨13, _⟩ => ⟨S_, .f32⟩
  | .hbm, ⟨14, _⟩ => ⟨S50000x4, .f32⟩
  | .hbm, ⟨15, _⟩ => ⟨S1600000x1, .i32⟩
  | .hbm, ⟨16, _⟩ => ⟨S50000x4, .f32⟩
  | .hbm, ⟨17, _⟩ => ⟨S50000x4, .f32⟩
  | .hbm, ⟨18, _⟩ => ⟨S50000x1, .f32⟩
  | .hbm, ⟨19, _⟩ => ⟨S50000, .f32⟩
  | .hbm, ⟨20, _⟩ => ⟨S50000x1, .f32⟩
  | .hbm, ⟨21, _⟩ => ⟨S50000x1x4, .f32⟩
  | .hbm, ⟨22, _⟩ => ⟨S50000x4, .f32⟩
  | .hbm, ⟨23, _⟩ => ⟨S50000x4, .f32⟩
  | .hbm, ⟨24, _⟩ => ⟨S4, .f32⟩
  | .hbm, ⟨25, _⟩ => ⟨S_, .f32⟩
  | .hbm, ⟨26, _⟩ => ⟨S4, .f32⟩
  | .hbm, ⟨27, _⟩ => ⟨S4, .f32⟩
  | .hbm, ⟨28, _⟩ => ⟨S4, .f32⟩
  | .hbm, ⟨29, _⟩ => ⟨S_, .f32⟩
  | .hbm, ⟨30, _⟩ => ⟨S4, .f32⟩
  | .hbm, ⟨31, _⟩ => ⟨S_, .f32⟩
  | .hbm, ⟨32, _⟩ => ⟨S4, .f32⟩
  | .hbm, ⟨33, _⟩ => ⟨S4, .f32⟩
  | .hbm, ⟨34, _⟩ => ⟨S_, .f32⟩
  | .hbm, ⟨35, _⟩ => ⟨S4, .f32⟩
  | .hbm, ⟨36, _⟩ => ⟨S4, .f32⟩
  | .hbm, ⟨37, _⟩ => ⟨S4, .f32⟩
  | .hbm, ⟨38, _⟩ => ⟨S50000x4, .f32⟩
  | .hbm, ⟨39, _⟩ => ⟨S1x4, .f32⟩
  | .hbm, ⟨40, _⟩ => ⟨S50000x4, .f32⟩
  | .hbm, ⟨41, _⟩ => ⟨S50000x4, .f32⟩
  | .hbm, ⟨42, _⟩ => ⟨S_, .f32⟩
  | .hbm, ⟨43, _⟩ => ⟨S50000, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | _, _ => ⟨S1600000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_cst_8 : Ref sig .tc := ⟨.hbm, 48, rfl⟩
abbrev main_v34 : Ref sig .tc := ⟨.hbm, 49, rfl⟩

abbrev nD : Nat := 1
abbrev τ : Topo := Topo.v7x

variable {F : FTy → Type} [FloatOps F]
-- ==== Proof.Base.lean ====
/-
  The setting of this certificate's proof modules: the SparseCore launch's configuration and resource algebra, and what
  the task accumulates — `accum f idx v n`, the running scatter-add over a list of indices and values, one entry at a
  time — with the lemma that one indexed store of sixteen lanes is sixteen of its steps.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Batch
public import Idealize.ShloMosaic.Lib.Tactic
public import proofs.«01_k».proof.Proof.Gen.KernelIdeal
public import proofs.«01_k».proof.Proof.Gen.KernelIdeal.Skeleton

@[expose] public section

noncomputable section

namespace Cert.Proof.Seg

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-! ## The program as the launch theorem sees it -/

abbrev ΛP : Labels := Pipeline.Sig Λ₀ (Fin 1) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
/-- The handshakes' rounds, the finisher pipeline's rounds, and the counters of the tiles' own transfers. -/
abbrev UU : Type := UH × (UR sig nD τ × Counters)

abbrev EH : Emb UH (MT nD τ sig (HIx 1) (Elt F) ℕ UU ℕ) := embL
def EP : Emb (UR sig nD τ) (MT nD τ sig (HIx 1) (Elt F) ℕ UU ℕ) :=
  (Emb.inl : Emb (UR sig nD τ) (UR sig nD τ × Counters)).trans embR

instance EP_landsIn : (EP (F := F)).LandsIn (upEmb : UEmb _ (MT nD τ sig (HIx 1) (Elt F) ℕ UU ℕ)) := by
  unfold EP embR; infer_instance

/-! ## The accumulation -/

/-- Entry `n` of an index vector of 3136, `n` taken modulo its length. -/
def ix3136 (n : ℕ) : S3136.Idx := fun a => ⟨n % 3136, by rw [Fin.eq_zero a]; exact Nat.mod_lt _ (by decide)⟩

/-- One accumulator after `n` entries of a list: from `f`, entry `k` adds `v k` at element `idx k`. -/
def accum (f : S50048.Idx → F .f32) (idx : ℕ → ℕ) (v : ℕ → F .f32) : ℕ → S50048.Idx → F .f32
  | 0, j => f j
  | n + 1, j => if (j 0).val = idx n then FloatOps.idxAddf (accum f idx v n j) (v n) else accum f idx v n j

theorem accum_zero (f : S50048.Idx → F .f32) (idx : ℕ → ℕ) (v : ℕ → F .f32) : accum f idx v 0 = f := rfl

theorem accum_succ (f : S50048.Idx → F .f32) (idx : ℕ → ℕ) (v : ℕ → F .f32) (n : ℕ) :
    accum f idx v (n + 1)
      = fun j => if (j 0).val = idx n then FloatOps.idxAddf (accum f idx v n j) (v n) else accum f idx v n j := rfl

/-- Going on from where a list stopped: `n` entries after the first `c`. -/
theorem accum_add (f : S50048.Idx → F .f32) (idx : ℕ → ℕ) (v : ℕ → F .f32) (c n : ℕ) :
    accum f idx v (c + n) = accum (accum f idx v c) (fun k => idx (c + k)) (fun k => v (c + k)) n := by
  induction n with
  | zero => rfl
  | succ n ih => rw [← Nat.add_assoc, accum_succ, accum_succ, ih]

theorem accum_congr {f : S50048.Idx → F .f32} {idx idx' : ℕ → ℕ} {v v' : ℕ → F .f32} (n : ℕ)
    (hi : ∀ k < n, idx k = idx' k) (hv : ∀ k < n, v k = v' k) : accum f idx v n = accum f idx' v' n := by
  induction n with
  | zero => rfl
  | succ n ih =>
    rw [accum_succ, accum_succ, ih (fun k hk => hi k (by omega)) (fun k hk => hv k (by omega)), hi n (by omega), hv n (by omega)]

/-- A fold over the first `n` of the sixteen lanes. -/
theorem foldl_lanes (f : S50048.Idx → F .f32) (idx : ℕ → ℕ) (v : ℕ → F .f32) (d : ℕ) :
    (List.finRange d).foldl (fun g (k : Fin d) => fun j : S50048.Idx =>
        if (j 0).val = idx k.val then FloatOps.idxAddf (g j) (v k.val) else g j) f = accum f idx v d := by
  induction d with
  | zero => rfl
  | succ d ih =>
    rw [List.finRange_succ_last, List.foldl_append, List.foldl_map, accum_succ, ← ih]
    rfl

/-- The indexed store with addition, sixteen lanes: sixteen steps of the accumulation. -/
theorem storeIdx_eq (f : Vec F S50048 .f32) (iv : IVec S16 32) (v : Vec F S16 .f32)
    (h : ∀ a x, ((![iv] : Fin 1 → IVec S16 32) a x).toNat < S50048.size a) :
    (storeIdx f (![iv] : Fin 1 → IVec S16 32) v (fun _ => 1#1) true h : Vec F S50048 .f32)
      = accum f (fun k => (iv (Shape.ofLane (d := ![16]) (Fin.ofNat 16 k))).toNat) (fun k => v (Shape.ofLane (d := ![16]) (Fin.ofNat 16 k))) 16 := by
  rw [← foldl_lanes]
  unfold storeIdx
  show List.foldl _ f (List.finRange 16) = List.foldl _ f (List.finRange 16)
  congr 1
  funext g k j
  have hk : Fin.ofNat 16 k.val = k := Fin.ext (Nat.mod_eq_of_lt k.isLt)
  simp only [if_true, Elt.idxAdd_f32, hk]
  rw [if_pos (show (1#1 : BitVec 1) = 1 from rfl)]
  beta_reduce
  by_cases hj : (j 0).val = (iv (Shape.ofLane (d := ![16]) k)).toNat
  · have hall : ∀ a, (j a).val = (idxAt (s := S50048) (![iv] : Fin 1 → IVec S16 32) h (Shape.ofLane k) a).val := by
      intro a; rw [Fin.eq_zero a]; exact hj
    have hij : idxAt (s := S50048) (![iv] : Fin 1 → IVec S16 32) h (Shape.ofLane k) = j := funext fun a => Fin.ext (hall a).symm
    rw [if_pos hall, if_pos hj, hij]
  · rw [if_neg (fun hall => hj (hall 0)), if_neg hj]

end Cert.Proof.Seg

end
-- ==== Proof.Group.lean ====
/-
  The group loop of the task: sixteen entries of a fetched chunk at a time, two loads of indices, their checks, a load of
  values, the two indexed stores. One lemma over the five buffers, for both chunk buffers of every layer.
-/
module

public import proofs.«01_k».proof.Proof.Base

@[expose] public section

noncomputable section

namespace Cert.Proof.Seg

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

section

variable (d : Dev nD) (L : grid0.Coords)

abbrev cV (L : grid0.Coords) : Fin τ.nSC := (L 0).castLE hcore0
abbrev jV (L : grid0.Coords) : Fin τ.nSub := (L 1).castLE hsub0
/-- The tile's thread. -/
abbrev thr (d : Dev nD) (L : grid0.Coords) : Thread nD τ := V d (cV L) (jV L)

/-- One group: the loop's region over the buffers it reads and the two it adds into. -/
def group (L : grid0.Coords) (A B : Memref sig .scVector .vmem S3136 .i32) (W : Memref sig .scVector .vmem S3136 .f32)
    (AS AD : Memref sig .scVector .vmem S50048 .f32) :
    Fin k0_t2_loop.trips → Unit → Prog (TpuEff nD τ sig (Elt F) Λ₀ (.scVector (cV L) (jV L))) Unit :=
  fun g _ => do
    let v47 : Vec F S16 .i32 ← Prog.lift (.load A (Rect.unit (s := S3136) (k0_off5 g) S16.size (k0_off5_inb g)).toLoadRect (View.loadsAt_vmem h_S16))
    have h1 : k0_chk1 v47 := (← Prog.lift (TpuEff.assume (k0_chk1 v47) (k0_chk1.dec v47))).down
    let v50 : Vec F S16 .i32 ← Prog.lift (.load B (Rect.unit (s := S3136) (k0_off5 g) S16.size (k0_off5_inb g)).toLoadRect (View.loadsAt_vmem h_S16))
    have h2 : k0_chk2 v50 := (← Prog.lift (TpuEff.assume (k0_chk2 v50) (k0_chk2.dec v50))).down
    let v53 : Vec F S16 .f32 ← Prog.lift (.load W (Rect.unit (s := S3136) (k0_off5 g) S16.size (k0_off5_inb g)).toLoadRect (View.loadsAt_vmem h_S16))
    SparseCore.vectorStoreIdx AS ![v47] v53 (fun _ => 1#1) true (k0_idx1_inb v47 h1) (View.stores_vmem_bits_univ h_S50048 rfl)
    SparseCore.vectorStoreIdx AD ![v50] v53 (fun _ => 1#1) true (k0_idx2_inb v50 h2) (View.stores_vmem_bits_univ h_S50048 rfl)
    pure ⟨⟩

theorem trips_group : k0_t2_loop.trips = 196 := by decide

/-- Entry `x` of a group's box is entry `16 g + x` of the chunk. -/
theorem group_idx (g : Fin k0_t2_loop.trips) (k : ℕ) (hk : k < 16) :
    (Rect.unit (s := S3136) (k0_off5 g) S16.size (k0_off5_inb g)).toLoadRect.idx (Shape.ofLane (d := ![16]) (Fin.ofNat 16 k)) = ix3136 (16 * g.val + k) := by
  have hg : g.val < 196 := lt_of_lt_of_eq g.isLt trips_group
  funext a; apply Fin.ext
  rw [Fin.eq_zero a]
  show (k0_off5 g 0 + 1 * (k % 16) : ℕ) = (16 * g.val + k) % 3136
  rw [k0_off5_eq]
  show 16 * g.val + 1 * (k % 16) = _
  omega

/-- An accumulator held at `x`. -/
abbrev accAt (A : Memref sig .scVector .vmem S50048 .f32) (x : S50048.Idx → F .f32) : sProp 𝕄 :=
  iprop(∃ f, ⌜(A.access (.whole S50048)).read (Elt F) f = x⌝
    ∗ ((A.access (.whole S50048)).loc (thr d L) ↦[(A.access (.whole S50048)).set]{fullShare} f))

/-- A chunk buffer held at `f`. -/
abbrev bufAt {e : EltTy} (A : Memref sig .scVector .vmem S3136 e) (f : Buf (Elt F) (A.view.loc (thr d L))) : sProp 𝕄 :=
  (A.view.loc (thr d L) ↦[A.view.set]{fullShare} f)

/-- The indices of a chunk as numbers, its values. -/
abbrev idxOf (x : S3136.Idx → BitVec 32) : ℕ → ℕ := fun n => (x (ix3136 n)).toNat
abbrev valOf (x : S3136.Idx → F .f32) : ℕ → F .f32 := fun n => x (ix3136 n)

theorem group_wp (A B : Memref sig .scVector .vmem S3136 .i32) (W : Memref sig .scVector .vmem S3136 .f32)
    (AS AD : Memref sig .scVector .vmem S50048 .f32)
    (fa : Buf (Elt F) (A.view.loc (thr d L))) (fb : Buf (Elt F) (B.view.loc (thr d L))) (fw : Buf (Elt F) (W.view.loc (thr d L)))
    (ha : ∀ x, (A.view.read (Elt F) fa x).toNat < 50048) (hb : ∀ x, (B.view.read (Elt F) fb x).toNat < 50048)
    (xs xd : S50048.Idx → F .f32) (g : Fin k0_t2_loop.trips) :
    iprop(bufAt d L A fa ∗ bufAt d L B fb ∗ bufAt d L W fw
        ∗ accAt d L AS (accum xs (idxOf (A.view.read (Elt F) fa)) (valOf (W.view.read (Elt F) fw)) (16 * g.val))
        ∗ accAt d L AD (accum xd (idxOf (B.view.read (Elt F) fb)) (valOf (W.view.read (Elt F) fw)) (16 * g.val)))
      ⊢ wp frame (wpE (defs₀ (F := F)) 𝒱₀ (thr d L) none) Set.univ (group L A B W AS AD g ())
          fun _ => iprop(bufAt d L A fa ∗ bufAt d L B fb ∗ bufAt d L W fw
            ∗ accAt d L AS (accum xs (idxOf (A.view.read (Elt F) fa)) (valOf (W.view.read (Elt F) fw)) (16 * (g.val + 1)))
            ∗ accAt d L AD (accum xd (idxOf (B.view.read (Elt F) fb)) (valOf (W.view.read (Elt F) fw)) (16 * (g.val + 1)))) := by
  have c1 : k0_chk1 (A.view.readAt (Elt F) (Rect.unit (s := S3136) (k0_off5 g) S16.size (k0_off5_inb g)).toLoadRect fa) :=
    fun a x => by rw [Fin.eq_zero a]; exact ha _
  have c2 : k0_chk2 (B.view.readAt (Elt F) (Rect.unit (s := S3136) (k0_off5 g) S16.size (k0_off5_inb g)).toLoadRect fb) :=
    fun a x => by rw [Fin.eq_zero a]; exact hb _
  unfold group
  iintro ⟨HA, HB, HW, ⟨%fs, %hfs, HS⟩, ⟨%fd, %hfd, HD⟩⟩
  sl_exec
  iapply (SparseCore.wp_vectorStoreIdx 𝒱₀ (thr d L) none Set.univ (base := AS)) $$ HS; iintro HS
  iapply (SparseCore.wp_vectorStoreIdx 𝒱₀ (thr d L) none Set.univ (base := AD)) $$ HD; iintro HD
  sl_step
  isplitl [HA]; · iexact HA
  isplitl [HB]; · iexact HB
  isplitl [HW]; · iexact HW
  isplitl [HS]
  · iexists _
    isplitr
    swap; · iexact HS
    ipureintro
    rw [View.read_write_univ, storeIdx_eq, hfs, Nat.mul_succ, accum_add]
    refine accum_congr 16 (fun k hk => ?_) (fun k hk => ?_)
    · exact congrArg (fun i => (A.view.read (Elt F) fa i).toNat) (group_idx g k hk)
    · exact congrArg (fun i => W.view.read (Elt F) fw i) (group_idx g k hk)
  · iexists _
    isplitr
    swap; · iexact HD
    ipureintro
    rw [View.read_write_univ, storeIdx_eq, hfd, Nat.mul_succ, accum_add]
    refine accum_congr 16 (fun k hk => ?_) (fun k hk => ?_)
    · exact congrArg (fun i => (B.view.read (Elt F) fb i).toNat) (group_idx g k hk)
    · exact congrArg (fun i => W.view.read (Elt F) fw i) (group_idx g k hk)

/-- All the groups of a chunk: each accumulator goes on by the chunk's 3136 entries. -/
theorem groups_wp (A B : Memref sig .scVector .vmem S3136 .i32) (W : Memref sig .scVector .vmem S3136 .f32)
    (AS AD : Memref sig .scVector .vmem S50048 .f32)
    (fa : Buf (Elt F) (A.view.loc (thr d L))) (fb : Buf (Elt F) (B.view.loc (thr d L))) (fw : Buf (Elt F) (W.view.loc (thr d L)))
    (ha : ∀ x, (A.view.read (Elt F) fa x).toNat < 50048) (hb : ∀ x, (B.view.read (Elt F) fb x).toNat < 50048)
    (xs xd : S50048.Idx → F .f32) {β : Type}
    {k : Unit → Prog (TpuEff nD τ sig (Elt F) Λ₀ (.scVector (cV L) (jV L))) β} {Q : β → sProp 𝕄} :
    iprop(bufAt d L A fa ∗ bufAt d L B fb ∗ bufAt d L W fw ∗ accAt d L AS xs ∗ accAt d L AD xd)
      ⊢ iprop((iprop(bufAt d L A fa ∗ bufAt d L B fb ∗ bufAt d L W fw
            ∗ accAt d L AS (accum xs (idxOf (A.view.read (Elt F) fa)) (valOf (W.view.read (Elt F) fw)) 3136)
            ∗ accAt d L AD (accum xd (idxOf (B.view.read (Elt F) fb)) (valOf (W.view.read (Elt F) fw)) 3136))
          -∗ wp frame (wpE (defs₀ (F := F)) 𝒱₀ (thr d L) none) Set.univ (k ()) Q)
        -∗ wp frame (wpE (defs₀ (F := F)) 𝒱₀ (thr d L) none) Set.univ (Scf.Loop.for k0_t2_loop k0_t2_ok ⟨⟩ (group L A B W AS AD) >>= k) Q) := by
  refine (Scf.wp_for_bind frame (wpE (defs₀ (F := F)) 𝒱₀ (thr d L) none) Set.univ _ _ _ k0_t2_ok ⟨⟩ (group L A B W AS AD)
    (fun n _ => iprop(bufAt d L A fa ∗ bufAt d L B fb ∗ bufAt d L W fw
            ∗ accAt d L AS (accum xs (idxOf (A.view.read (Elt F) fa)) (valOf (W.view.read (Elt F) fw)) (16 * n))
            ∗ accAt d L AD (accum xd (idxOf (B.view.read (Elt F) fb)) (valOf (W.view.read (Elt F) fw)) (16 * n))))
    (fun g _ => group_wp d L A B W AS AD fa fb fw ha hb xs xd g) (kk := k) (Q := Q)).trans ?_
  iintro HW HK
  iapply HW
  iintro %_ HI
  iapply HK
  rw [show Scf.trips _ _ _ = 196 from trips_group]
  iexact HI

/-- A chunk buffer that reads `x`. -/
abbrev bufRd {e : EltTy} (A : Memref sig .scVector .vmem S3136 e) (x : S3136.Idx → Elt F e) : sProp 𝕄 :=
  iprop(∃ f, ⌜A.view.read (Elt F) f = x⌝ ∗ bufAt d L A f)

/-- The same over what the buffers read. -/
theorem groups_rd (A B : Memref sig .scVector .vmem S3136 .i32) (W : Memref sig .scVector .vmem S3136 .f32)
    (AS AD : Memref sig .scVector .vmem S50048 .f32)
    (ia ib : S3136.Idx → BitVec 32) (w : S3136.Idx → F .f32) (ha : ∀ x, (ia x).toNat < 50048) (hb : ∀ x, (ib x).toNat < 50048)
    (xs xd : S50048.Idx → F .f32) {β : Type}
    {k : Unit → Prog (TpuEff nD τ sig (Elt F) Λ₀ (.scVector (cV L) (jV L))) β} {Q : β → sProp 𝕄} :
    iprop(bufRd d L A ia ∗ bufRd d L B ib ∗ bufRd d L W w ∗ accAt d L AS xs ∗ accAt d L AD xd)
      ⊢ iprop((iprop((∃ f, bufAt d L A f) ∗ (∃ f, bufAt d L B f) ∗ (∃ f, bufAt d L W f)
            ∗ accAt d L AS (accum xs (idxOf ia) (valOf w) 3136) ∗ accAt d L AD (accum xd (idxOf ib) (valOf w) 3136))
          -∗ wp frame (wpE (defs₀ (F := F)) 𝒱₀ (thr d L) none) Set.univ (k ()) Q)
        -∗ wp frame (wpE (defs₀ (F := F)) 𝒱₀ (thr d L) none) Set.univ (Scf.Loop.for k0_t2_loop k0_t2_ok ⟨⟩ (group L A B W AS AD) >>= k) Q) := by
  iintro ⟨⟨%fa, %hfa, HA⟩, ⟨%fb, %hfb, HB⟩, ⟨%fw, %hfw, HW⟩, HS, HD⟩ HK
  subst hfa hfb hfw
  iapply (groups_wp d L A B W AS AD fa fb fw ha hb xs xd (k := k) (Q := Q)) $$ [HA HB HW HS HD]
  · isplitl [HA]; · iexact HA
    isplitl [HB]; · iexact HB
    isplitl [HW]; · iexact HW
    isplitl [HS]; · iexact HS
    iexact HD
  iintro ⟨HA, HB, HW, HS, HD⟩
  iapply HK
  isplitl [HA]; · iexists fa; iexact HA
  isplitl [HB]; · iexists fb; iexact HB
  isplitl [HW]; · iexists fw; iexact HW
  isplitl [HS]; · iexact HS
  iexact HD

end

end Cert.Proof.Seg

end
-- ==== Proof.Layer.lean ====
/-
  One step of the task's double-buffered loop: two chunks fetched on two semaphores, three copies each, the groups of the
  first run while the second is in flight.
-/
module

public import proofs.«01_k».proof.Proof.Group

@[expose] public section

noncomputable section

namespace Cert.Proof.Seg

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

section

variable (d : Dev nD) (L : grid0.Coords)

/-- The step up to the second chunk's last wait: six copies issued, the first chunk's three waits, its groups, two waits. -/
def stepHead (L : grid0.Coords) (sA dA sB dB : Memref sig .scVector .hbm S3136 .i32) (pA pB : Memref sig .scVector .hbm S3136 .f32)
    (A B A' B' : Memref sig .scVector .vmem S3136 .i32) (W W' : Memref sig .scVector .vmem S3136 .f32)
    (semA semB : DmaSem sig) (AS AD : Memref sig .scVector .vmem S50048 .f32)
    (hsA : sA.view.WordExact) (hdA : dA.view.WordExact) (hsB : sB.view.WordExact) (hdB : dB.view.WordExact)
    (hpA : pA.view.WordExact) (hpB : pB.view.WordExact) (hA : A.view.WordExact) (hB : B.view.WordExact)
    (hA' : A'.view.WordExact) (hB' : B'.view.WordExact) (hW : W.view.WordExact) (hW' : W'.view.WordExact) :
    Prog (TpuEff nD τ sig (Elt F) Λ₀ (.scVector (cV L) (jV L))) PUnit := do
  Prog.lift (.enqueueDma sA (.here A) (.dma semA) hsA hA ⟨Or.inl rfl, trivial⟩)
  Prog.lift (.enqueueDma dA (.here B) (.dma semA) hdA hB ⟨Or.inl rfl, trivial⟩)
  Prog.lift (.enqueueDma pA (.here W) (.dma semA) hpA hW ⟨Or.inl rfl, trivial⟩)
  Prog.lift (.enqueueDma sB (.here A') (.dma semB) hsB hA' ⟨Or.inl rfl, trivial⟩)
  Prog.lift (.enqueueDma dB (.here B') (.dma semB) hdB hB' ⟨Or.inl rfl, trivial⟩)
  Prog.lift (.enqueueDma pB (.here W') (.dma semB) hpB hW' ⟨Or.inl rfl, trivial⟩)
  Prog.lift (.waitDma2 semA sA A hsA hA)
  Prog.lift (.waitDma2 semA dA B hdA hB)
  Prog.lift (.waitDma2 semA pA W hpA hW)
  Scf.Loop.for k0_t2_loop k0_t2_ok ⟨⟩ (group L A B W AS AD)
  Prog.lift (.waitDma2 semB sB A' hsB hA')
  Prog.lift (.waitDma2 semB dB B' hdB hB')

/-- The whole step. -/
def step (L : grid0.Coords) (sA dA sB dB : Memref sig .scVector .hbm S3136 .i32) (pA pB : Memref sig .scVector .hbm S3136 .f32)
    (A B A' B' : Memref sig .scVector .vmem S3136 .i32) (W W' : Memref sig .scVector .vmem S3136 .f32)
    (semA semB : DmaSem sig) (AS AD : Memref sig .scVector .vmem S50048 .f32)
    (hsA : sA.view.WordExact) (hdA : dA.view.WordExact) (hsB : sB.view.WordExact) (hdB : dB.view.WordExact)
    (hpA : pA.view.WordExact) (hpB : pB.view.WordExact) (hA : A.view.WordExact) (hB : B.view.WordExact)
    (hA' : A'.view.WordExact) (hB' : B'.view.WordExact) (hW : W.view.WordExact) (hW' : W'.view.WordExact) :
    Prog (TpuEff nD τ sig (Elt F) Λ₀ (.scVector (cV L) (jV L))) Unit := do
  stepHead L sA dA sB dB pA pB A B A' B' W W' semA semB AS AD hsA hdA hsB hdB hpA hpB hA hB hA' hB' hW hW'
  Prog.lift (.waitDma2 semB pB W' hpB hW')
  Scf.Loop.for k0_t2_loop k0_t2_ok ⟨⟩ (group L A' B' W' AS AD)
  pure ⟨⟩

/-- A chunk of an array in HBM, read at a share. -/
abbrev srcAt {e : EltTy} (A : Memref sig .scVector .hbm S3136 e) (q : PosShare TreeShare) (f : Buf (Elt F) (A.view.loc (thr d L))) : sProp 𝕄 :=
  (A.view.loc (thr d L) ↦[A.view.set]{q} f)

/-- What a whole landing leaves reads as what landed. -/
theorem read_landed {sp : Space} {s : Shape} {e : EltTy} (A : Memref sig .scVector sp s e) (f : A.view.ty.Contents (Elt F)) (w : s.Idx → Elt F e) :
    A.view.read (Elt F) (A.view.writes (Elt F) f [⟨Rect.whole s, w⟩]) = w :=
  funext fun x => View.read_writes_cons_hit A.view f (Rect.whole s) w [] x x (by rw [Rect.emb_whole_apply])

theorem bufRd_of {e : EltTy} (A : Memref sig .scVector .vmem S3136 e) (f : Buf (Elt F) (A.view.loc (thr d L))) (x : S3136.Idx → Elt F e)
    (h : A.view.read (Elt F) f = x) : bufAt d L A f ⊢ (bufRd d L A x : sProp 𝕄) := by
  iintro H
  iexists f
  isplitr
  · ipureintro; exact h
  iexact H

/-- A wait on a semaphore at the default index keeps the waits' bound. -/
theorem waits_insert {Wt W : Waits sig (HIx 1)} {x : SemLoc sig} (h : ∀ p ∈ Wt, p ∈ W ∨ p.2 = none) :
    ∀ p ∈ insert (x, (default : HIx 1)) Wt, p ∈ W ∨ p.2 = none := by
  intro p hp
  rcases Finset.mem_insert.mp hp with rfl | hp
  · exact Or.inr rfl
  · exact h p hp

set_option maxHeartbeats 1000000 in
-- sixteen copies and waits, their buffers and semaphores in one context
theorem step_wp (sA dA sB dB : Memref sig .scVector .hbm S3136 .i32) (pA pB : Memref sig .scVector .hbm S3136 .f32)
    (A B A' B' : Memref sig .scVector .vmem S3136 .i32) (W W' : Memref sig .scVector .vmem S3136 .f32)
    (semA semB : DmaSem sig) (AS AD : Memref sig .scVector .vmem S50048 .f32)
    (hsA : sA.view.WordExact) (hdA : dA.view.WordExact) (hsB : sB.view.WordExact) (hdB : dB.view.WordExact)
    (hpA : pA.view.WordExact) (hpB : pB.view.WordExact) (hA : A.view.WordExact) (hB : B.view.WordExact)
    (hA' : A'.view.WordExact) (hB' : B'.view.WordExact) (hW : W.view.WordExact) (hW' : W'.view.WordExact)
    (qs qd qs' qd' qp qp' : PosShare TreeShare)
    (fsA : Buf (Elt F) (sA.view.loc (thr d L))) (fdA : Buf (Elt F) (dA.view.loc (thr d L)))
    (fsB : Buf (Elt F) (sB.view.loc (thr d L))) (fdB : Buf (Elt F) (dB.view.loc (thr d L)))
    (fpA : Buf (Elt F) (pA.view.loc (thr d L))) (fpB : Buf (Elt F) (pB.view.loc (thr d L)))
    (fA : Buf (Elt F) (A.view.loc (thr d L))) (fB : Buf (Elt F) (B.view.loc (thr d L)))
    (fA' : Buf (Elt F) (A'.view.loc (thr d L))) (fB' : Buf (Elt F) (B'.view.loc (thr d L)))
    (fW : Buf (Elt F) (W.view.loc (thr d L))) (fW' : Buf (Elt F) (W'.view.loc (thr d L)))
    (O : CellTallies nD τ sig (HIx 1)) (Wt : Waits sig (HIx 1))
    (h1 : ∀ x, (sA.view.read (Elt F) fsA x).toNat < 50048) (h2 : ∀ x, (dA.view.read (Elt F) fdA x).toNat < 50048)
    (h3 : ∀ x, (sB.view.read (Elt F) fsB x).toNat < 50048) (h4 : ∀ x, (dB.view.read (Elt F) fdB x).toNat < 50048)
    (xs xd : S50048.Idx → F .f32) :
    iprop(srcAt d L sA qs fsA ∗ srcAt d L dA qd fdA ∗ srcAt d L pA qp fpA ∗ srcAt d L sB qs' fsB ∗ srcAt d L dB qd' fdB ∗ srcAt d L pB qp' fpB
        ∗ bufAt d L A fA ∗ bufAt d L B fB ∗ bufAt d L W fW ∗ bufAt d L A' fA' ∗ bufAt d L B' fB' ∗ bufAt d L W' fW'
        ∗ accAt d L AS xs ∗ accAt d L AD xd
        ∗ semVal (thr d L, SemLoc.dma semA) 0 ∗ semVal (thr d L, SemLoc.dma semB) 0
        ∗ owes (thr d L) O Wt ∗ Transfers.MayWaits (thr d L) (default : HIx 1) O)
      ⊢ wp frame (wpE (defs₀ (F := F)) 𝒱₀ (thr d L) none) Set.univ
          (step L sA dA sB dB pA pB A B A' B' W W' semA semB AS AD hsA hdA hsB hdB hpA hpB hA hB hA' hB' hW hW')
          fun _ => iprop(srcAt d L sA qs fsA ∗ srcAt d L dA qd fdA ∗ srcAt d L pA qp fpA ∗ srcAt d L sB qs' fsB ∗ srcAt d L dB qd' fdB ∗ srcAt d L pB qp' fpB
        ∗ (∃ fA, bufAt d L A fA) ∗ (∃ fB, bufAt d L B fB) ∗ (∃ fW, bufAt d L W fW) ∗ (∃ fA', bufAt d L A' fA') ∗ (∃ fB', bufAt d L B' fB') ∗ (∃ fW', bufAt d L W' fW')
        ∗ accAt d L AS (accum (accum xs (idxOf (sA.view.read (Elt F) fsA)) (valOf (pA.view.read (Elt F) fpA)) 3136)
            (idxOf (sB.view.read (Elt F) fsB)) (valOf (pB.view.read (Elt F) fpB)) 3136)
        ∗ accAt d L AD (accum (accum xd (idxOf (dA.view.read (Elt F) fdA)) (valOf (pA.view.read (Elt F) fpA)) 3136)
            (idxOf (dB.view.read (Elt F) fdB)) (valOf (pB.view.read (Elt F) fpB)) 3136)
        ∗ semVal (thr d L, SemLoc.dma semA) 0 ∗ semVal (thr d L, SemLoc.dma semB) 0
        ∗ (∃ Wt', ⌜∀ p ∈ Wt', p ∈ Wt ∨ p.2 = none⌝ ∗ owes (thr d L) O Wt')) := by
  have planA : Transfers.BatchOf (thr d L) (SemLoc.dma (sig := sig) semA) 3 := trivial
  have planB : Transfers.BatchOf (thr d L) (SemLoc.dma (sig := sig) semB) 3 := trivial
  unfold step stepHead
  iintro ⟨Hs1, Hd1, Hp1, Hs2, Hd2, Hp2, HA, HB, HW, HA', HB', HW', HS, HD, Hm1, Hm2, HO, #Hmw⟩
  sl_exec (disch := exact View.amount_pos _ _ (show 0 < S3136.numel by decide))
  simp only [bind_assoc]
  iapply (groups_rd d L A B W AS AD (sA.view.read (Elt F) fsA) (dA.view.read (Elt F) fdA) (pA.view.read (Elt F) fpA) h1 h2 xs xd) $$ [HA HB HW HS HD]
  · isplitl [HA]; · iapply (bufRd_of d L _ _ _ (read_landed _ _ _)) $$ [HA]; iexact HA
    isplitl [HB]; · iapply (bufRd_of d L _ _ _ (read_landed _ _ _)) $$ [HB]; iexact HB
    isplitl [HW]; · iapply (bufRd_of d L _ _ _ (read_landed _ _ _)) $$ [HW]; iexact HW
    isplitl [HS]; · iexact HS
    iexact HD
  iintro ⟨HA, HB, HW, HS, HD⟩
  sl_exec (disch := exact View.amount_pos _ _ (show 0 < S3136.numel by decide))
  iapply (groups_rd d L A' B' W' AS AD (sB.view.read (Elt F) fsB) (dB.view.read (Elt F) fdB) (pB.view.read (Elt F) fpB) h3 h4
    (accum xs (idxOf (sA.view.read (Elt F) fsA)) (valOf (pA.view.read (Elt F) fpA)) 3136)
    (accum xd (idxOf (dA.view.read (Elt F) fdA)) (valOf (pA.view.read (Elt F) fpA)) 3136)) $$ [HA' HB' HW' HS HD]
  · isplitl [HA']; · iapply (bufRd_of d L _ _ _ (read_landed _ _ _)) $$ [HA']; iexact HA'
    isplitl [HB']; · iapply (bufRd_of d L _ _ _ (read_landed _ _ _)) $$ [HB']; iexact HB'
    isplitl [HW']; · iapply (bufRd_of d L _ _ _ (read_landed _ _ _)) $$ [HW']; iexact HW'
    isplitl [HS]; · iexact HS
    iexact HD
  iintro ⟨HA', HB', HW', HS, HD⟩
  sl_step
  isplitl [Hs1]; · iexact Hs1
  isplitl [Hd1]; · iexact Hd1
  isplitl [Hp1]; · iexact Hp1
  isplitl [Hs2]; · iexact Hs2
  isplitl [Hd2]; · iexact Hd2
  isplitl [Hp2]; · iexact Hp2
  isplitl [HA]; · iexact HA
  isplitl [HB]; · iexact HB
  isplitl [HW]; · iexact HW
  isplitl [HA']; · iexact HA'
  isplitl [HB']; · iexact HB'
  isplitl [HW']; · iexact HW'
  isplitl [HS]; · iexact HS
  isplitl [HD]; · iexact HD
  isplitl [Hm1]; · iexact Hm1
  isplitl [Hm2]; · iexact Hm2
  iexists _
  isplitr
  swap; · iexact HO
  ipureintro
  exact waits_insert (waits_insert (waits_insert (waits_insert (waits_insert (waits_insert fun p hp => Or.inl hp)))))

end

end Cert.Proof.Seg

end
-- ==== Proof.Slices.lean ====
/-
  The task's arrays and scratch, the slices it copies, and which elements they read: worker `w = 2 s + c` (tile `s` of
  SparseCore `c`) takes the 50176 padded edges from `50176 w` on, and writes rows `(l, 0, w)` and `(l, 1, w)` of the result.
-/
module

public import proofs.«01_k».proof.Proof.Layer
public import Idealize.ShloMosaic.Lib.ValueIdxCore
public import Idealize.ShloMosaic.Lib.Pointwise.Reshape

@[expose] public section

noncomputable section

namespace Cert.Proof.Seg

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-! ## The memrefs of the launch -/

abbrev srcV : Memref sig .scVector .hbm S1605632 .i32 := Memref.whole main_v3_scv
abbrev dstV : Memref sig .scVector .hbm S1605632 .i32 := Memref.whole main_v7_scv
abbrev prdV : Memref sig .scVector .hbm S4x1605632 .f32 := Memref.whole main_v10_scv
abbrev zroV : Memref sig .scVector .hbm S50048 .f32 := Memref.whole main_v11_scv
abbrev outV : Memref sig .scVector .hbm S4x2x32x50048 .f32 := Memref.whole main_v12_scv
abbrev isaV : Memref sig .scVector .vmem S3136 .i32 := Memref.whole cc0_scratch0
abbrev idaV : Memref sig .scVector .vmem S3136 .i32 := Memref.whole cc0_scratch1
abbrev vaV : Memref sig .scVector .vmem S3136 .f32 := Memref.whole cc0_scratch2
abbrev isbV : Memref sig .scVector .vmem S3136 .i32 := Memref.whole cc0_scratch3
abbrev idbV : Memref sig .scVector .vmem S3136 .i32 := Memref.whole cc0_scratch4
abbrev vbV : Memref sig .scVector .vmem S3136 .f32 := Memref.whole cc0_scratch5
abbrev asV : Memref sig .scVector .vmem S50048 .f32 := Memref.whole cc0_scratch8
abbrev adV : Memref sig .scVector .vmem S50048 .f32 := Memref.whole cc0_scratch9

/-! ## Which elements -/

/-- Edge `n` of worker `w`. -/
def edge (w n : ℕ) : S1605632.Idx := fun a => ⟨(50176 * w + n) % 1605632, by rw [Fin.eq_zero a]; exact Nat.mod_lt _ (by decide)⟩
/-- Layer `l`'s value at edge `n` of worker `w`. -/
def pedge (l : Fin 4) (w n : ℕ) : S4x1605632.Idx := ValueIdx.ix2 l ⟨(50176 * w + n) % 1605632, Nat.mod_lt _ (by decide)⟩

/-- A worker's indices and values in order. -/
def tIdx (fs : S1605632.Idx → BitVec 32) (w : ℕ) : ℕ → ℕ := fun n => (fs (edge w n)).toNat
def tVal (fp : S4x1605632.Idx → F .f32) (l : Fin 4) (w : ℕ) : ℕ → F .f32 := fun n => fp (pedge l w n)

/-- A chunk of the indices. -/
abbrev chunk (M : Memref sig .scVector .hbm S1605632 .i32) (o : Fin 1 → ℕ) (h : ∀ a, o a + S3136.size a ≤ S1605632.size a) :
    Memref sig .scVector .hbm S3136 .i32 := M.slice (Rect.unit (s := S1605632) o S3136.size h) (fun _ => rfl)
/-- A chunk of a layer's values. -/
abbrev pchunk (o : Fin 2 → ℕ) (h : ∀ a, o a + S1x3136.size a ≤ S4x1605632.size a) : Memref sig .scVector .hbm S3136 .f32 :=
  (prdV.slice (Rect.unit (s := S4x1605632) o S1x3136.size h) (fun _ => rfl)).squeeze S3136 squeezes_S1x3136_S3136
/-- A row of the result. -/
abbrev orow (o : Fin 4 → ℕ) (h : ∀ a, o a + S1x1x1x50048.size a ≤ S4x2x32x50048.size a) : Memref sig .scVector .hbm S50048 .f32 :=
  (outV.slice (Rect.unit (s := S4x2x32x50048) o S1x1x1x50048.size h) (fun _ => rfl)).squeeze S50048 squeezes_S1x1x1x50048_S50048

theorem chunk_emb {o : Fin 1 → ℕ} {h : ∀ a, o a + S3136.size a ≤ S1605632.size a} {w n : ℕ} (ho : o = ![50176 * w + n]) (k : ℕ) (hk : k < 3136) :
    (Rect.unit (s := S1605632) o S3136.size h).emb (ix3136 k) = edge w (n + k) := by
  have hb := h 0
  funext a; apply Fin.ext
  rw [Fin.eq_zero a]
  show (o 0 + 1 * (k % 3136) : ℕ) = (50176 * w + (n + k)) % 1605632
  subst ho
  change 50176 * w + n + 3136 ≤ 1605632 at hb
  show 50176 * w + n + 1 * (k % 3136) = _
  omega

theorem src_read (o : Fin 1 → ℕ) (h : ∀ a, o a + S3136.size a ≤ S1605632.size a) {w n : ℕ} (ho : o = ![50176 * w + n])
    (f : S1605632.Idx → BitVec 32) (k : ℕ) (hk : k < 3136) :
    (idxOf ((chunk srcV o h).view.read (Elt F) f) k : ℕ) = tIdx f w (n + k) := by
  unfold tIdx
  rw [← chunk_emb (h := h) ho k hk]
  rfl
theorem dst_read (o : Fin 1 → ℕ) (h : ∀ a, o a + S3136.size a ≤ S1605632.size a) {w n : ℕ} (ho : o = ![50176 * w + n])
    (f : S1605632.Idx → BitVec 32) (k : ℕ) (hk : k < 3136) :
    (idxOf ((chunk dstV o h).view.read (Elt F) f) k : ℕ) = tIdx f w (n + k) := by
  unfold tIdx
  rw [← chunk_emb (h := h) ho k hk]
  rfl

theorem pchunk_emb {o : Fin 2 → ℕ} {h : ∀ a, o a + S1x3136.size a ≤ S4x1605632.size a} {l : Fin 4} {w n : ℕ} (ho : o = ![l.val, 50176 * w + n]) (k : ℕ) (hk : k < 3136) :
    (Rect.unit (s := S4x1605632) o S1x3136.size h).emb (Shape.reshapeEquiv squeezes_S1x3136_S3136.numel_eq (ix3136 k)) = pedge l w (n + k) := by
  have hb := h 1
  have e : (Shape.reshapeEquiv squeezes_S1x3136_S3136.numel_eq (ix3136 k) : S1x3136.Idx) = Fin.cons ⟨0, Nat.one_pos⟩ (ix3136 k) :=
    Shape.reshapeEquiv_cons_one _ _
  rw [e]
  subst ho
  change 50176 * w + n + 3136 ≤ 1605632 at hb
  funext a; apply Fin.ext
  fin_cases a
  · show l.val + 1 * 0 = l.val
    omega
  · show 50176 * w + n + 1 * (k % 3136) = (50176 * w + (n + k)) % 1605632
    omega

theorem prd_read (o : Fin 2 → ℕ) (h : ∀ a, o a + S1x3136.size a ≤ S4x1605632.size a) {l : Fin 4} {w n : ℕ} (ho : o = ![l.val, 50176 * w + n])
    (f : S4x1605632.Idx → F .f32) (k : ℕ) (hk : k < 3136) :
    (valOf ((pchunk o h).view.read (Elt F) f) k : F .f32) = tVal f l w (n + k) := by
  unfold tVal
  rw [← pchunk_emb (h := h) ho k hk]
  rfl

/-- Element `j` of row `(l, s, w)`. -/
def oidx (l : Fin 4) (s : Fin 2) (w : Fin 32) (j : S50048.Idx) : S4x2x32x50048.Idx := ValueIdx.ix4 l s w (j 0)

theorem orow_emb {o : Fin 4 → ℕ} {h : ∀ a, o a + S1x1x1x50048.size a ≤ S4x2x32x50048.size a} {l : Fin 4} {s : Fin 2} {w : Fin 32}
    (ho : o = ![l.val, s.val, w.val, 0]) (j : S50048.Idx) : (orow o h).view.emb j = oidx l s w j := by
  have e : (Shape.reshapeEquiv squeezes_S1x1x1x50048_S50048.numel_eq j : S1x1x1x50048.Idx)
      = ValueIdx.ix4 (0 : Fin 1) (0 : Fin 1) (0 : Fin 1) (j 0) := by
    refine Shape.reshapeEquiv_eq_of_vals _ _ _ (j 0).val (j 0).val ?_ ?_ rfl
    · show (Shape.rowMajorPi _ _).val = _
      simp [Shape.rowMajorPi_succ_val, Fin.prod_univ_succ, Shape.rowMajorPi_fin0_val]
    · show (Shape.rowMajorPi _ _).val = _
      simp [Shape.rowMajorPi_succ_val, Fin.prod_univ_succ, Shape.rowMajorPi_fin0_val]
  show (Rect.unit (s := S4x2x32x50048) o S1x1x1x50048.size h).emb (Shape.reshapeEquiv squeezes_S1x1x1x50048_S50048.numel_eq j) = _
  rw [e]
  subst ho
  funext a; apply Fin.ext
  fin_cases a
  · show l.val + 1 * 0 = l.val; omega
  · show s.val + 1 * 0 = s.val; omega
  · show w.val + 1 * 0 = w.val; omega
  · show 0 + 1 * (j 0).val = (j 0).val; omega

end Cert.Proof.Seg

end
-- ==== Proof.Tile.lean ====
/-
  One layer of the task — two zero fills, the eight steps, two write-outs — and the task as its four layers.
-/
module

public import proofs.«01_k».proof.Proof.Slices
public import proofs.«01_k».proof.Proof.Gen.KernelIdeal.Skeleton

@[expose] public section

noncomputable section

namespace Cert.Proof.Seg

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-- Offsets of a layer's chunks and rows, with their bounds. -/
structure Offs (L : grid0.Coords) where
  a : Fin k0_t1_loop.trips → Fin 1 → ℕ
  ap : Fin k0_t1_loop.trips → Fin 2 → ℕ
  b : Fin k0_t1_loop.trips → Fin 1 → ℕ
  bp : Fin k0_t1_loop.trips → Fin 2 → ℕ
  s : Fin 4 → ℕ
  d : Fin 4 → ℕ
  ha : ∀ k x, a k x + S3136.size x ≤ S1605632.size x
  hap : ∀ k x, ap k x + S1x3136.size x ≤ S4x1605632.size x
  hb : ∀ k x, b k x + S3136.size x ≤ S1605632.size x
  hbp : ∀ k x, bp k x + S1x3136.size x ≤ S4x1605632.size x
  hs : ∀ x, s x + S1x1x1x50048.size x ≤ S4x2x32x50048.size x
  hd : ∀ x, d x + S1x1x1x50048.size x ≤ S4x2x32x50048.size x

/-- The loop's region at a step. -/
abbrev stepOf (L : grid0.Coords) (o : Offs L) (k : Fin k0_t1_loop.trips) :
    Prog (TpuEff nD τ sig (Elt F) Λ₀ (.scVector (cV L) (jV L))) Unit :=
  step L (chunk srcV (o.a k) (o.ha k)) (chunk dstV (o.a k) (o.ha k)) (chunk srcV (o.b k) (o.hb k)) (chunk dstV (o.b k) (o.hb k))
    (pchunk (o.ap k) (o.hap k)) (pchunk (o.bp k) (o.hbp k)) isaV idaV isbV idbV vaV vbV cc0_scratch6.sem cc0_scratch7.sem asV adV
    (View.wordExact_bits rfl) (View.wordExact_bits rfl) (View.wordExact_bits rfl) (View.wordExact_bits rfl)
    ((View.wordExact_bits rfl).reshape _ _) ((View.wordExact_bits rfl).reshape _ _)
    (Memref.isWhole_whole _).wordExact (Memref.isWhole_whole _).wordExact (Memref.isWhole_whole _).wordExact (Memref.isWhole_whole _).wordExact
    (Memref.isWhole_whole _).wordExact (Memref.isWhole_whole _).wordExact

/-- A layer. -/
def layer (L : grid0.Coords) (o : Offs L) (r0 r1 r2 r3 : DmaSem sig) :
    Prog (TpuEff nD τ sig (Elt F) Λ₀ (.scVector (cV L) (jV L))) PUnit := do
  Prog.lift (.enqueueDma zroV (.here asV) (.dma r0) (Memref.isWhole_whole _).wordExact (Memref.isWhole_whole _).wordExact ⟨Or.inl rfl, trivial⟩)
  Prog.lift (.waitDma2 r0 zroV asV (Memref.isWhole_whole _).wordExact (Memref.isWhole_whole _).wordExact)
  Prog.lift (.enqueueDma zroV (.here adV) (.dma r1) (Memref.isWhole_whole _).wordExact (Memref.isWhole_whole _).wordExact ⟨Or.inl rfl, trivial⟩)
  Prog.lift (.waitDma2 r1 zroV adV (Memref.isWhole_whole _).wordExact (Memref.isWhole_whole _).wordExact)
  Scf.Loop.for k0_t1_loop k0_t1_ok ⟨⟩ (fun k _ => stepOf L o k)
  Prog.lift (.enqueueDma asV (.here (orow o.s o.hs)) (.dma r2) (Memref.isWhole_whole _).wordExact ((View.wordExact_bits rfl).reshape _ _) ⟨Or.inl rfl, trivial⟩)
  Prog.lift (.waitDma2 r2 asV (orow o.s o.hs) (Memref.isWhole_whole _).wordExact ((View.wordExact_bits rfl).reshape _ _))
  Prog.lift (.enqueueDma adV (.here (orow o.d o.hd)) (.dma r3) (Memref.isWhole_whole _).wordExact ((View.wordExact_bits rfl).reshape _ _) ⟨Or.inl rfl, trivial⟩)
  Prog.lift (.waitDma2 r3 adV (orow o.d o.hd) (Memref.isWhole_whole _).wordExact ((View.wordExact_bits rfl).reshape _ _))

/-- The four layers' offsets. -/
def offs0 (L : grid0.Coords) : Offs L := ⟨k0_off1 L, k0_off2 L, k0_off3 L, k0_off4 L, k0_off7 L, k0_off8 L, k0_off1_inb L, k0_off2_inb L, k0_off3_inb L, k0_off4_inb L, k0_off7_inb L, k0_off8_inb L⟩
def offs1 (L : grid0.Coords) : Offs L := ⟨k0_off9 L, k0_off10 L, k0_off11 L, k0_off12 L, k0_off15 L, k0_off16 L, k0_off9_inb L, k0_off10_inb L, k0_off11_inb L, k0_off12_inb L, k0_off15_inb L, k0_off16_inb L⟩
def offs2 (L : grid0.Coords) : Offs L := ⟨k0_off17 L, k0_off18 L, k0_off19 L, k0_off20 L, k0_off23 L, k0_off24 L, k0_off17_inb L, k0_off18_inb L, k0_off19_inb L, k0_off20_inb L, k0_off23_inb L, k0_off24_inb L⟩
def offs3 (L : grid0.Coords) : Offs L := ⟨k0_off25 L, k0_off26 L, k0_off27 L, k0_off28 L, k0_off31 L, k0_off32 L, k0_off25_inb L, k0_off26_inb L, k0_off27_inb L, k0_off28_inb L, k0_off31_inb L, k0_off32_inb L⟩

/-- The task's program at its coordinates. -/
abbrev task (L : grid0.Coords) : Prog (TpuEff nD τ sig (Elt F) Λ₀ (.scVector (cV L) (jV L))) PUnit :=
  cc0__sc_segsum L srcV (Memref.isWhole_whole _) dstV (Memref.isWhole_whole _) prdV (Memref.isWhole_whole _) zroV (Memref.isWhole_whole _) outV (Memref.isWhole_whole _)
    isaV (Memref.isWhole_whole _) idaV (Memref.isWhole_whole _) vaV (Memref.isWhole_whole _) isbV (Memref.isWhole_whole _) idbV (Memref.isWhole_whole _) vbV (Memref.isWhole_whole _)
    cc0_scratch6 cc0_scratch7 asV (Memref.isWhole_whole _) adV (Memref.isWhole_whole _)
    cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15

set_option maxHeartbeats 2000000 in
set_option maxRecDepth 16384 in
-- the program's hundred and seventy operations on both sides
theorem task_eq (L : grid0.Coords) : task (F := F) L = (do
    layer L (offs0 L) cc0_scoped0.sem cc0_scoped1.sem cc0_scoped2.sem cc0_scoped3.sem
    layer L (offs1 L) cc0_scoped4.sem cc0_scoped5.sem cc0_scoped6.sem cc0_scoped7.sem
    layer L (offs2 L) cc0_scoped8.sem cc0_scoped9.sem cc0_scoped10.sem cc0_scoped11.sem
    layer L (offs3 L) cc0_scoped12.sem cc0_scoped13.sem cc0_scoped14.sem cc0_scoped15.sem
    pure ⟨⟩) := by
  unfold task
  rw [cc0__sc_segsum_eq_skeleton]
  unfold cc0__sc_segsum_skel
  rw [k0_part5_eq_skeleton, k0_part6_eq_skeleton]
  unfold k0_part5_skel k0_part6_skel layer
  simp only [bind_assoc, pure_bind]
  rfl

/-! ## Values -/

/-- The worker at the coordinates. -/
def wid (L : grid0.Coords) : Fin 32 := ⟨2 * (L 1).val + (L 0).val, by
  have h0 : (L 0).val < 2 := (L 0).isLt
  have h1 : (L 1).val < 16 := (L 1).isLt
  omega⟩

/-- The result of the launch: row `(l, s, w)` is what worker `w`'s entries add onto the zero row, by the sources' indices
    (`s = 0`) or the targets' (`s = 1`). -/
def outOf (fs fd : S1605632.Idx → BitVec 32) (fp : S4x1605632.Idx → F .f32) (z : S50048.Idx → F .f32) : S4x2x32x50048.Idx → F .f32 :=
  fun i => accum z (tIdx (if (i 1).val = 0 then fs else fd) (i 2).val) (tVal fp (i 0) (i 2).val) 50176 (ValueIdx.ix1 (i 3))

theorem outOf_row (l : Fin 4) (s : Fin 2) (w : Fin 32) (fs fd : S1605632.Idx → BitVec 32) (fp : S4x1605632.Idx → F .f32) (z : S50048.Idx → F .f32) (j : S50048.Idx) :
    outOf fs fd fp z (oidx l s w j) = accum z (tIdx (if s.val = 0 then fs else fd) w.val) (tVal fp l w.val) 50176 j := by
  have hj : ValueIdx.ix1 (j 0) = j := by funext a; rw [Fin.eq_zero a]
  unfold outOf
  exact congrArg _ hj

theorem outOf_src (l : Fin 4) (w : Fin 32) (fs fd : S1605632.Idx → BitVec 32) (fp : S4x1605632.Idx → F .f32) (z : S50048.Idx → F .f32) (j : S50048.Idx) :
    outOf fs fd fp z (oidx l 0 w j) = accum z (tIdx fs w.val) (tVal fp l w.val) (6272 * 8) j := outOf_row l 0 w fs fd fp z j
theorem outOf_dst (l : Fin 4) (w : Fin 32) (fs fd : S1605632.Idx → BitVec 32) (fp : S4x1605632.Idx → F .f32) (z : S50048.Idx → F .f32) (j : S50048.Idx) :
    outOf fs fd fp z (oidx l 1 w j) = accum z (tIdx fd w.val) (tVal fp l w.val) (6272 * 8) j := outOf_row l 1 w fs fd fp z j

/-- The offsets are layer `l`'s at worker `w`. -/
structure Offs.At {L : grid0.Coords} (o : Offs L) (l : Fin 4) : Prop where
  a : ∀ k, o.a k = ![50176 * (wid L).val + 6272 * k.val]
  ap : ∀ k, o.ap k = ![l.val, 50176 * (wid L).val + 6272 * k.val]
  b : ∀ k, o.b k = ![50176 * (wid L).val + (6272 * k.val + 3136)]
  bp : ∀ k, o.bp k = ![l.val, 50176 * (wid L).val + (6272 * k.val + 3136)]
  s : o.s = ![l.val, 0, (wid L).val, 0]
  d : o.d = ![l.val, 1, (wid L).val, 0]

theorem vec1 (L : grid0.Coords) {x : ℕ} (y : ℕ) (h : x = 100352 * (L 1).val + 50176 * (L 0).val + y) : (![x] : Fin 1 → ℕ) = ![50176 * (wid L).val + y] := by
  have : x = 50176 * (wid L).val + y := by simp only [wid]; omega
  rw [this]
theorem vec2 (L : grid0.Coords) (l : ℕ) {x : ℕ} (y : ℕ) (h : x = 100352 * (L 1).val + 50176 * (L 0).val + y) :
    (![l, x] : Fin 2 → ℕ) = ![l, 50176 * (wid L).val + y] := by
  have : x = 50176 * (wid L).val + y := by simp only [wid]; omega
  rw [this]

/-- An accumulator after the entries before step `k`, then the step's two chunks. -/
theorem accum_step (z : S50048.Idx → F .f32) (idx ia ib : ℕ → ℕ) (v va vb : ℕ → F .f32) (k : ℕ)
    (h1 : ∀ n < 3136, ia n = idx (6272 * k + n)) (h2 : ∀ n < 3136, va n = v (6272 * k + n))
    (h3 : ∀ n < 3136, ib n = idx (6272 * k + 3136 + n)) (h4 : ∀ n < 3136, vb n = v (6272 * k + 3136 + n)) :
    accum (accum (accum z idx v (6272 * k)) ia va 3136) ib vb 3136 = accum z idx v (6272 * (k + 1)) := by
  rw [show 6272 * (k + 1) = 6272 * k + 3136 + 3136 by omega, accum_add z idx v (6272 * k + 3136), accum_add z idx v (6272 * k),
    accum_congr 3136 h1 h2, accum_congr 3136 h3 h4]

section

variable (d : Dev nD) (L : grid0.Coords)

/-- Two parts of an array at the halves of a share, and the way back. -/
theorem two_parts {ℓ : Loc nD τ sig} (q : PosShare TreeShare) (f : Buf (Elt F) ℓ) (I J : Finset (Idx ℓ)) :
    (ℓ ↦{q} f : sProp 𝕄) ⊢ iprop((ℓ ↦[I]{q.left} f) ∗ (ℓ ↦[J]{q.right} f) ∗ (iprop((ℓ ↦[I]{q.left} f) ∗ (ℓ ↦[J]{q.right} f)) -∗ (ℓ ↦{q} f))) := by
  iintro H
  ihave H := (pointsTo_share (PosShare.mem_left_op_right q)).1 $$ H
  icases H with ⟨H1, H2⟩
  ihave H1 := (pointsTo_split_subset (Finset.subset_univ I)).1 $$ H1
  ihave H2 := (pointsTo_split_subset (Finset.subset_univ J)).1 $$ H2
  icases H1 with ⟨H1, H1'⟩
  icases H2 with ⟨H2, H2'⟩
  isplitl [H1]; · iexact H1
  isplitl [H2]; · iexact H2
  iintro ⟨H1, H2⟩
  iapply (pointsTo_share (PosShare.mem_left_op_right q)).2
  isplitl [H1 H1']
  · iapply (pointsTo_split_subset (Finset.subset_univ I)).2
    isplitl [H1]; · iexact H1
    iexact H1'
  · iapply (pointsTo_split_subset (Finset.subset_univ J)).2
    isplitl [H2]; · iexact H2
    iexact H2'

/-- The chunk buffers, at anything. -/
abbrev bufs : sProp 𝕄 :=
  iprop((∃ f, bufAt d L isaV f) ∗ (∃ f, bufAt d L idaV f) ∗ (∃ f, bufAt d L vaV f) ∗ (∃ f, bufAt d L isbV f) ∗ (∃ f, bufAt d L idbV f) ∗ (∃ f, bufAt d L vbV f))

/-- The arrays read, at a share. -/
abbrev arrs (q : PosShare TreeShare) (fs fd : S1605632.Idx → BitVec 32) (fp : S4x1605632.Idx → F .f32) : sProp 𝕄 :=
  iprop((srcV.view.loc (thr d L) ↦{q} (fs : Buf (Elt F) (srcV.view.loc (thr d L)))) ∗ (dstV.view.loc (thr d L) ↦{q} (fd : Buf (Elt F) (dstV.view.loc (thr d L))))
    ∗ (prdV.view.loc (thr d L) ↦{q} (fp : Buf (Elt F) (prdV.view.loc (thr d L)))))

/-- The loop's invariant before step `n`. -/
abbrev stepInv (l : Fin 4) (q : PosShare TreeShare) (fs fd : S1605632.Idx → BitVec 32) (fp : S4x1605632.Idx → F .f32) (z : S50048.Idx → F .f32)
    (O : CellTallies nD τ sig (HIx 1)) (Wt : Waits sig (HIx 1)) (n : ℕ) : sProp 𝕄 :=
  iprop(arrs d L q fs fd fp ∗ bufs d L
    ∗ accAt d L asV (accum z (tIdx fs (wid L).val) (tVal fp l (wid L).val) (6272 * n))
    ∗ accAt d L adV (accum z (tIdx fd (wid L).val) (tVal fp l (wid L).val) (6272 * n))
    ∗ semVal (thr d L, SemLoc.dma cc0_scratch6.sem) 0 ∗ semVal (thr d L, SemLoc.dma cc0_scratch7.sem) 0
    ∗ (∃ Wt', ⌜∀ p ∈ Wt', p ∈ Wt ∨ p.2 = none⌝ ∗ owes (thr d L) O Wt') ∗ Transfers.MayWaits (thr d L) (default : HIx 1) O)

theorem stepOf_wp (o : Offs L) (l : Fin 4) (ho : o.At l) (q : PosShare TreeShare) (fs fd : S1605632.Idx → BitVec 32) (fp : S4x1605632.Idx → F .f32)
    (hfs : ∀ i, (fs i).toNat < 50048) (hfd : ∀ i, (fd i).toNat < 50048)
    (z : S50048.Idx → F .f32) (O : CellTallies nD τ sig (HIx 1)) (Wt : Waits sig (HIx 1)) (k : Fin k0_t1_loop.trips) :
    stepInv d L l q fs fd fp z O Wt k.val
      ⊢ wp frame (wpE (defs₀ (F := F)) 𝒱₀ (thr d L) none) Set.univ (stepOf L o k)
          fun _ => stepInv d L l q fs fd fp z O Wt (k.val + 1) := by
  iintro ⟨⟨Hs, Hd, Hp⟩, ⟨⟨%f1, H1⟩, ⟨%f2, H2⟩, ⟨%f3, H3⟩, ⟨%f4, H4⟩, ⟨%f5, H5⟩, ⟨%f6, H6⟩⟩, HS, HD, Hm1, Hm2, ⟨%Wt', %hW, HO⟩, #Hmw⟩
  ihave Hs := (two_parts q (fs : Buf (Elt F) (srcV.view.loc (thr d L))) (chunk srcV (o.a k) (o.ha k)).view.set (chunk srcV (o.b k) (o.hb k)).view.set) $$ Hs
  ihave Hd := (two_parts q (fd : Buf (Elt F) (dstV.view.loc (thr d L))) (chunk dstV (o.a k) (o.ha k)).view.set (chunk dstV (o.b k) (o.hb k)).view.set) $$ Hd
  ihave Hp := (two_parts q (fp : Buf (Elt F) (prdV.view.loc (thr d L))) (pchunk (o.ap k) (o.hap k)).view.set (pchunk (o.bp k) (o.hbp k)).view.set) $$ Hp
  icases Hs with ⟨Hs1, Hs2, Hs⟩
  icases Hd with ⟨Hd1, Hd2, Hd⟩
  icases Hp with ⟨Hp1, Hp2, Hp⟩
  iapply (wp_wand_r frame (wpE (defs₀ (F := F)) 𝒱₀ (thr d L) none) Set.univ)
  isplitl [Hs1 Hs2 Hd1 Hd2 Hp1 Hp2 H1 H2 H3 H4 H5 H6 HS HD Hm1 Hm2 HO]
  · iapply (step_wp d L (chunk srcV (o.a k) (o.ha k)) (chunk dstV (o.a k) (o.ha k)) (chunk srcV (o.b k) (o.hb k)) (chunk dstV (o.b k) (o.hb k))
      (pchunk (o.ap k) (o.hap k)) (pchunk (o.bp k) (o.hbp k)) isaV idaV isbV idbV vaV vbV cc0_scratch6.sem cc0_scratch7.sem asV adV
      _ _ _ _ _ _ _ _ _ _ _ _ q.left q.left q.right q.right q.left q.right fs fd fs fd fp fp f1 f2 f4 f5 f3 f6 O Wt'
      (fun x => hfs _) (fun x => hfd _) (fun x => hfs _) (fun x => hfd _) _ _)
    isplitl [Hs1]; · iexact Hs1
    isplitl [Hd1]; · iexact Hd1
    isplitl [Hp1]; · iexact Hp1
    isplitl [Hs2]; · iexact Hs2
    isplitl [Hd2]; · iexact Hd2
    isplitl [Hp2]; · iexact Hp2
    isplitl [H1]; · iexact H1
    isplitl [H2]; · iexact H2
    isplitl [H3]; · iexact H3
    isplitl [H4]; · iexact H4
    isplitl [H5]; · iexact H5
    isplitl [H6]; · iexact H6
    isplitl [HS]; · iexact HS
    isplitl [HD]; · iexact HD
    isplitl [Hm1]; · iexact Hm1
    isplitl [Hm2]; · iexact Hm2
    isplitl [HO]; · iexact HO
    iexact Hmw
  iintro %_ ⟨Hs1, Hd1, Hp1, Hs2, Hd2, Hp2, H1, H2, H3, H4, H5, H6, HS, HD, Hm1, Hm2, ⟨%Wt'', %hW', HO⟩⟩
  rw [accum_step z (tIdx fs (wid L).val) _ _ (tVal fp l (wid L).val) _ _ k.val
      (src_read _ _ (ho.a k) fs) (prd_read _ _ (ho.ap k) fp) (src_read _ _ (ho.b k) fs) (prd_read _ _ (ho.bp k) fp),
    accum_step z (tIdx fd (wid L).val) _ _ (tVal fp l (wid L).val) _ _ k.val
      (dst_read _ _ (ho.a k) fd) (prd_read _ _ (ho.ap k) fp) (dst_read _ _ (ho.b k) fd) (prd_read _ _ (ho.bp k) fp)]
  isplitl [Hs1 Hs2 Hs Hd1 Hd2 Hd Hp1 Hp2 Hp]
  · isplitl [Hs1 Hs2 Hs]
    · iapply Hs
      isplitl [Hs1]; · iexact Hs1
      iexact Hs2
    isplitl [Hd1 Hd2 Hd]
    · iapply Hd
      isplitl [Hd1]; · iexact Hd1
      iexact Hd2
    · iapply Hp
      isplitl [Hp1]; · iexact Hp1
      iexact Hp2
  isplitl [H1 H2 H3 H4 H5 H6]
  · isplitl [H1]; · iexact H1
    isplitl [H2]; · iexact H2
    isplitl [H3]; · iexact H3
    isplitl [H4]; · iexact H4
    isplitl [H5]; · iexact H5
    iexact H6
  isplitl [HS]; · iexact HS
  isplitl [HD]; · iexact HD
  isplitl [Hm1]; · iexact Hm1
  isplitl [Hm2]; · iexact Hm2
  isplitl [HO]
  · iexists Wt''
    isplitr
    · ipureintro
      intro p hp
      rcases hW' p hp with h | h
      · exact hW p h
      · exact Or.inr h
    iexact HO
  iexact Hmw

/-- An accumulator through its own view. -/
abbrev accRd (A : Memref sig .scVector .vmem S50048 .f32) (x : S50048.Idx → F .f32) : sProp 𝕄 :=
  iprop(∃ f, ⌜A.view.read (Elt F) f = x⌝ ∗ (A.view.loc (thr d L) ↦[A.view.set]{fullShare} f))

theorem acc_eq {A : Memref sig .scVector .vmem S50048 .f32} (hs : (A.access (.whole S50048)).set = A.view.set)
    (hr : ∀ f, (A.access (.whole S50048)).read (Elt F) f = A.view.read (Elt F) f) (x : S50048.Idx → F .f32) :
    (accRd d L A x : sProp 𝕄) = accAt d L A x := by
  unfold accRd accAt
  congr 1
  funext f
  rw [hr f, hs]

theorem asV_set : (asV.access (.whole S50048)).set = asV.view.set := (Memref.set_access_whole cc0_scratch8).trans (View.set_whole cc0_scratch8).symm
theorem adV_set : (adV.access (.whole S50048)).set = adV.view.set := (Memref.set_access_whole cc0_scratch9).trans (View.set_whole cc0_scratch9).symm
theorem asV_read (f) : (asV.access (.whole S50048)).read (Elt F) f = asV.view.read (Elt F) f := Memref.read_access_whole (Elt F) cc0_scratch8 f
theorem adV_read (f) : (adV.access (.whole S50048)).read (Elt F) f = adV.view.read (Elt F) f := Memref.read_access_whole (Elt F) cc0_scratch9 f

/-- The result's array. -/
abbrev outLoc : Loc nD τ sig := outV.view.loc (thr d L)

/-- A row that landed holds the result's contents there. -/
theorem row_landed (o : Fin 4 → ℕ) (h : ∀ a, o a + S1x1x1x50048.size a ≤ S4x2x32x50048.size a) {l : Fin 4} {s : Fin 2} {w : Fin 32}
    (ho : o = ![l.val, s.val, w.val, 0]) (f : Buf (Elt F) ((orow o h).view.loc (thr d L))) (x : S50048.Idx → F .f32) (G : S4x2x32x50048.Idx → F .f32)
    (hG : ∀ j, x j = G (oidx l s w j)) :
    ((orow o h).view.loc (thr d L) ↦[(orow o h).view.set]{fullShare} ((orow o h).view.writes (Elt F) f [⟨Rect.whole S50048, x⟩]))
      ⊢ ((orow o h).view.loc (thr d L) ↦[(orow o h).view.set]{fullShare} (G : Buf (Elt F) ((orow o h).view.loc (thr d L))) : sProp 𝕄) := by
  refine Entails.of_eq (pointsTo_congr fun i hi => ?_)
  obtain ⟨j, -, rfl⟩ := Finset.mem_map.mp hi
  have h1 := congrFun (read_landed (orow o h) f x) j
  have h2 : (orow o h).view.read (Elt F) ((orow o h).view.writes (Elt F) f [⟨Rect.whole S50048, x⟩]) j
      = (orow o h).view.writes (Elt F) f [⟨Rect.whole S50048, x⟩] ((orow o h).view.emb j) :=
    (View.read_apply _ _).trans (cast_eq _ _)
  rw [← h2, h1, hG j, orow_emb ho]

set_option maxHeartbeats 1000000 in
-- eight copies and waits around the loop, all the layer's buffers and semaphores in one context
theorem layer_wp (o : Offs L) (l : Fin 4) (ho : o.At l) (r0 r1 r2 r3 : DmaSem sig) (q : PosShare TreeShare)
    (fs fd : S1605632.Idx → BitVec 32) (fp : S4x1605632.Idx → F .f32) (z : S50048.Idx → F .f32) (g : S4x2x32x50048.Idx → F .f32)
    (hfs : ∀ i, (fs i).toNat < 50048) (hfd : ∀ i, (fd i).toNat < 50048)
    (O : CellTallies nD τ sig (HIx 1)) (Wt : Waits sig (HIx 1)) :
    iprop(arrs d L q fs fd fp ∗ (zroV.view.loc (thr d L) ↦{q} (z : Buf (Elt F) (zroV.view.loc (thr d L)))) ∗ bufs d L
        ∗ (∃ f, (asV.view.loc (thr d L) ↦[asV.view.set]{fullShare} f)) ∗ (∃ f, (adV.view.loc (thr d L) ↦[adV.view.set]{fullShare} f))
        ∗ semVal (thr d L, SemLoc.dma cc0_scratch6.sem) 0 ∗ semVal (thr d L, SemLoc.dma cc0_scratch7.sem) 0
        ∗ (semVal (thr d L, SemLoc.dma r0) 0 ∗ semVal (thr d L, SemLoc.dma r1) 0 ∗ semVal (thr d L, SemLoc.dma r2) 0 ∗ semVal (thr d L, SemLoc.dma r3) 0)
        ∗ ((orow o.s o.hs).view.loc (thr d L) ↦[(orow o.s o.hs).view.set]{fullShare} (g : Buf (Elt F) (outV.view.loc (thr d L))))
        ∗ ((orow o.d o.hd).view.loc (thr d L) ↦[(orow o.d o.hd).view.set]{fullShare} (g : Buf (Elt F) (outV.view.loc (thr d L))))
        ∗ (∃ Wt', ⌜∀ p ∈ Wt', p ∈ Wt ∨ p.2 = none⌝ ∗ owes (thr d L) O Wt') ∗ Transfers.MayWaits (thr d L) (default : HIx 1) O)
      ⊢ wp frame (wpE (defs₀ (F := F)) 𝒱₀ (thr d L) none) Set.univ (layer L o r0 r1 r2 r3)
          fun _ => iprop(arrs d L q fs fd fp ∗ (zroV.view.loc (thr d L) ↦{q} (z : Buf (Elt F) (zroV.view.loc (thr d L)))) ∗ bufs d L
        ∗ (∃ f, (asV.view.loc (thr d L) ↦[asV.view.set]{fullShare} f)) ∗ (∃ f, (adV.view.loc (thr d L) ↦[adV.view.set]{fullShare} f))
        ∗ semVal (thr d L, SemLoc.dma cc0_scratch6.sem) 0 ∗ semVal (thr d L, SemLoc.dma cc0_scratch7.sem) 0
        ∗ (semVal (thr d L, SemLoc.dma r0) 0 ∗ semVal (thr d L, SemLoc.dma r1) 0 ∗ semVal (thr d L, SemLoc.dma r2) 0 ∗ semVal (thr d L, SemLoc.dma r3) 0)
        ∗ ((orow o.s o.hs).view.loc (thr d L) ↦[(orow o.s o.hs).view.set]{fullShare} (outOf fs fd fp z : Buf (Elt F) (outV.view.loc (thr d L))))
        ∗ ((orow o.d o.hd).view.loc (thr d L) ↦[(orow o.d o.hd).view.set]{fullShare} (outOf fs fd fp z : Buf (Elt F) (outV.view.loc (thr d L))))
        ∗ (∃ Wt', ⌜∀ p ∈ Wt', p ∈ Wt ∨ p.2 = none⌝ ∗ owes (thr d L) O Wt') ∗ Transfers.MayWaits (thr d L) (default : HIx 1) O) := by
  unfold layer
  iintro ⟨Ha, Hz, Hb, ⟨%f1, HS⟩, ⟨%f2, HD⟩, Hm1, Hm2, ⟨Hr0, Hr1, Hr2, Hr3⟩, Hos, Hod, ⟨%Wt', %hW, HO⟩, #Hmw⟩
  sl_exec (disch := exact View.amount_pos _ _ (show 0 < S50048.numel by decide))
  iapply (Scf.wp_for_bind frame (wpE (defs₀ (F := F)) 𝒱₀ (thr d L) none) Set.univ _ _ _ k0_t1_ok ⟨⟩ (fun k _ => stepOf L o k)
    (fun n _ => stepInv d L l q fs fd fp z O Wt n) (fun k _ => stepOf_wp d L o l ho q fs fd fp hfs hfd z O Wt k)) $$ [Ha Hb HS HD Hm1 Hm2 HO]
  · isplitl [Ha]; · iexact Ha
    isplitl [Hb]; · iexact Hb
    isplitl [HS]
    · iapply (Entails.of_eq (acc_eq d L asV_set asV_read _))
      iexists _; isplitr
      swap; · iexact HS
      ipureintro; exact read_landed _ _ _
    isplitl [HD]
    · iapply (Entails.of_eq (acc_eq d L adV_set adV_read _))
      iexists _; isplitr
      swap; · iexact HD
      ipureintro; exact read_landed _ _ _
    isplitl [Hm1]; · iexact Hm1
    isplitl [Hm2]; · iexact Hm2
    isplitl [HO]
    · iexists _
      isplitr
      swap; · iexact HO
      ipureintro
      exact waits_insert (waits_insert hW)
    iexact Hmw
  rw [show Scf.trips _ _ _ = 8 from (show k0_t1_loop.trips = 8 by decide)]
  iintro %_ ⟨Ha, Hb, HS, HD, Hm1, Hm2, ⟨%Wt'', %hW', HO⟩, -⟩
  ihave HS := (Entails.of_eq (acc_eq d L asV_set asV_read _).symm) $$ HS
  ihave HD := (Entails.of_eq (acc_eq d L adV_set adV_read _).symm) $$ HD
  icases HS with ⟨%gs, %hgs, HS⟩
  icases HD with ⟨%gd, %hgd, HD⟩
  sl_exec (disch := exact View.amount_pos _ _ (show 0 < S50048.numel by decide))
  sl_step
  isplitl [Ha]; · iexact Ha
  isplitl [Hz]; · iexact Hz
  isplitl [Hb]; · iexact Hb
  isplitl [HS]; · iexists _; iexact HS
  isplitl [HD]; · iexists _; iexact HD
  isplitl [Hm1]; · iexact Hm1
  isplitl [Hm2]; · iexact Hm2
  isplitl [Hr0 Hr1 Hr2 Hr3]
  · isplitl [Hr0]; · iexact Hr0
    isplitl [Hr1]; · iexact Hr1
    isplitl [Hr2]; · iexact Hr2
    iexact Hr3
  isplitl [Hos]
  · iapply (row_landed d L o.s o.hs (l := l) (s := 0) (w := wid L) ho.s _ _ (outOf fs fd fp z) ?hs) $$ Hos
    case hs => exact fun j => (congrFun hgs j).trans (outOf_src l (wid L) fs fd fp z j).symm
  isplitl [Hod]
  · iapply (row_landed d L o.d o.hd (l := l) (s := 1) (w := wid L) ho.d _ _ (outOf fs fd fp z) ?hd) $$ Hod
    case hd => exact fun j => (congrFun hgd j).trans (outOf_dst l (wid L) fs fd fp z j).symm
  isplitl [HO]
  · iexists _
    isplitr
    swap; · iexact HO
    ipureintro
    exact waits_insert (waits_insert hW')
  iexact Hmw

theorem offs0_at : (offs0 L).At 0 :=
  ⟨fun k => (k0_off1_eq L k).trans (vec1 L _ (by omega)), fun k => (k0_off2_eq L k).trans (vec2 L 0 _ (by omega)),
    fun k => (k0_off3_eq L k).trans (vec1 L _ (by omega)), fun k => (k0_off4_eq L k).trans (vec2 L 0 _ (by omega)), k0_off7_eq L, k0_off8_eq L⟩
theorem offs1_at : (offs1 L).At 1 :=
  ⟨fun k => (k0_off9_eq L k).trans (vec1 L _ (by omega)), fun k => (k0_off10_eq L k).trans (vec2 L 1 _ (by omega)),
    fun k => (k0_off11_eq L k).trans (vec1 L _ (by omega)), fun k => (k0_off12_eq L k).trans (vec2 L 1 _ (by omega)), k0_off15_eq L, k0_off16_eq L⟩
theorem offs2_at : (offs2 L).At 2 :=
  ⟨fun k => (k0_off17_eq L k).trans (vec1 L _ (by omega)), fun k => (k0_off18_eq L k).trans (vec2 L 2 _ (by omega)),
    fun k => (k0_off19_eq L k).trans (vec1 L _ (by omega)), fun k => (k0_off20_eq L k).trans (vec2 L 2 _ (by omega)), k0_off23_eq L, k0_off24_eq L⟩
theorem offs3_at : (offs3 L).At 3 :=
  ⟨fun k => (k0_off25_eq L k).trans (vec1 L _ (by omega)), fun k => (k0_off26_eq L k).trans (vec2 L 3 _ (by omega)),
    fun k => (k0_off27_eq L k).trans (vec1 L _ (by omega)), fun k => (k0_off28_eq L k).trans (vec2 L 3 _ (by omega)), k0_off31_eq L, k0_off32_eq L⟩

end

end Cert.Proof.Seg

end
-- ==== Proof.Body.lean ====
/-
  The task on one tile, from its payload: a share of each array read and its eight rows of the result, which it brings back
  at `outOf`.
-/
module

public import proofs.«01_k».proof.Proof.Tile
public import Idealize.ShloMosaic.Lib.ShareLeaves

@[expose] public section

noncomputable section

namespace Cert.Proof.Seg

open Cert.KernelIdeal Cert.KernelIdeal.Gen

open Idealize.ShloMosaic
open Idealize.ShloMosaic.SparseCore (S V T)
open Idealize.ShloMosaic.SparseCore.Cfg (HIx Pay ownCells ownRefs ownSems0 ownBufs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-- Among the members of a set, those a one-to-one family names, and the others. -/
theorem bigSep_named {I J : Type} [DecidableEq I] [Fintype J] [DecidableEq J] {S : Finset I} {f : J → I} (inj : Function.Injective f) (sub : ∀ j, f j ∈ S)
    (Φ : I → sProp 𝕄) : bigSep S Φ = iprop(bigSep Finset.univ (fun j => Φ (f j)) ∗ bigSep (S \ Finset.univ.image f) Φ) := by
  have e : S = Finset.univ.image f ∪ (S \ Finset.univ.image f) :=
    (Finset.union_sdiff_of_subset fun x hx => by obtain ⟨j, -, rfl⟩ := Finset.mem_image.mp hx; exact sub j).symm
  conv_lhs => rw [e]
  rw [bigSep_union Finset.disjoint_sdiff, SparseCore.bigSep_image_of_injOn fun _ _ _ _ h => inj h]
  rfl

/-! ## The payload -/

abbrev srcLoc (d : Dev nD) : Loc nD τ sig := (SparseCore.T d).loc main_v3
abbrev dstLoc (d : Dev nD) : Loc nD τ sig := (SparseCore.T d).loc main_v7
abbrev prdLoc (d : Dev nD) : Loc nD τ sig := (SparseCore.T d).loc main_v10
abbrev zroLoc (d : Dev nD) : Loc nD τ sig := (SparseCore.T d).loc main_v11
abbrev resLoc (d : Dev nD) : Loc nD τ sig := (SparseCore.T d).loc main_v12

/-- The launch's arrays' contents when it starts. -/
structure Args (F : FTy → Type) where
  fs : S1605632.Idx → BitVec 32
  fd : S1605632.Idx → BitVec 32
  fp : S4x1605632.Idx → F .f32
  z : S50048.Idx → F .f32
  o : S4x2x32x50048.Idx → F .f32

/-- Every index is an accumulator's element. -/
structure Args.OK (A : Args F) : Prop where
  src : ∀ i, (A.fs i).toNat < 50048
  dst : ∀ i, (A.fd i).toNat < 50048

/-- What the launch leaves in the result. -/
def Args.res (A : Args F) : S4x2x32x50048.Idx → F .f32 := outOf A.fs A.fd A.fp A.z

/-- Worker `w`'s share of an array read by all. -/
abbrev lf (w : Fin 32) : PosShare TreeShare := ShareLeaves.leaf 5 fullShare w

/-- Row `(l, s, w)` of the result. -/
def rowS (l : Fin 4) (s : Fin 2) (w : Fin 32) : Finset S4x2x32x50048.Idx := Finset.univ.filter fun i => (i 0).val = l.val ∧ (i 1).val = s.val ∧ (i 2).val = w.val

theorem mem_rowS {l : Fin 4} {s : Fin 2} {w : Fin 32} {i : S4x2x32x50048.Idx} : i ∈ rowS l s w ↔ (i 0).val = l.val ∧ (i 1).val = s.val ∧ (i 2).val = w.val := by
  simp [rowS]

/-- A row at given contents of the result. -/
abbrev rowPts (d : Dev nD) (o : S4x2x32x50048.Idx → F .f32) (w : Fin 32) (l : Fin 4) (s : Fin 2) : sProp 𝕄 :=
  resLoc d ↦[rowS l s w]{fullShare} (o : Buf (Elt F) (resLoc d))

/-- A worker's shares of the arrays read. -/
abbrev readPts (d : Dev nD) (A : Args F) (q : PosShare TreeShare) : sProp 𝕄 :=
  iprop((srcLoc d ↦{q} (A.fs : Buf (Elt F) (srcLoc d))) ∗ (dstLoc d ↦{q} (A.fd : Buf (Elt F) (dstLoc d)))
    ∗ (prdLoc d ↦{q} (A.fp : Buf (Elt F) (prdLoc d))) ∗ (zroLoc d ↦{q} (A.z : Buf (Elt F) (zroLoc d))))

/-- A worker's eight rows. -/
abbrev rowsPts (d : Dev nD) (o : S4x2x32x50048.Idx → F .f32) (w : Fin 32) : sProp 𝕄 :=
  bigSep Finset.univ fun l : Fin 4 => bigSep Finset.univ fun s : Fin 2 => rowPts d o w l s

theorem rowsPts_eq (d : Dev nD) (o : S4x2x32x50048.Idx → F .f32) (w : Fin 32) :
    (rowsPts d o w : sProp 𝕄) = iprop((rowPts d o w 0 0 ∗ rowPts d o w 0 1) ∗ (rowPts d o w 1 0 ∗ rowPts d o w 1 1)
      ∗ (rowPts d o w 2 0 ∗ rowPts d o w 2 1) ∗ (rowPts d o w 3 0 ∗ rowPts d o w 3 1)) := by
  refine (bigSep_univ_eq_bigSepL [0, 1, 2, 3] (by decide) (by decide) _).trans ?_
  simp only [bigSepL, bigSep_fin_two]
  rfl

section Tile

variable (d : Dev nD) (L : grid0.Coords)

/-- A row as the task addresses it. -/
theorem orow_pts {o : Fin 4 → ℕ} (h : ∀ a, o a + S1x1x1x50048.size a ≤ S4x2x32x50048.size a) {l : Fin 4} {s : Fin 2} {w : Fin 32}
    (ho : o = ![l.val, s.val, w.val, 0]) (f : S4x2x32x50048.Idx → F .f32) :
    ((orow o h).view.loc (thr d L) ↦[(orow o h).view.set]{fullShare} (f : Buf (Elt F) (outV.view.loc (thr d L))) : sProp 𝕄) = rowPts d f w l s := by
  have e : (orow o h).view.set = rowS l s w := by
    ext i
    rw [mem_rowS]
    constructor
    · intro hi
      obtain ⟨j, -, rfl⟩ := Finset.mem_map.mp hi
      show (((orow o h).view.emb j) 0).val = l.val ∧ (((orow o h).view.emb j) 1).val = s.val ∧ (((orow o h).view.emb j) 2).val = w.val
      rw [orow_emb ho]
      exact ⟨rfl, rfl, rfl⟩
    · rintro ⟨h0, h1, h2⟩
      refine Finset.mem_map.mpr ⟨ValueIdx.ix1 (i 3), Finset.mem_univ _, ?_⟩
      show (orow o h).view.emb _ = i
      rw [orow_emb ho]
      funext a
      fin_cases a
      · exact Fin.ext h0.symm
      · exact Fin.ext h1.symm
      · exact Fin.ext h2.symm
      · rfl
  rw [e]

/-! ## The tile's own semaphores and buffers -/

/-- The semaphores the task waits on. -/
def semOf : Fin 18 → SemLoc sig := ![.dma cc0_scratch6.sem, .dma cc0_scratch7.sem,
  .dma cc0_scoped0.sem, .dma cc0_scoped1.sem, .dma cc0_scoped2.sem, .dma cc0_scoped3.sem,
  .dma cc0_scoped4.sem, .dma cc0_scoped5.sem, .dma cc0_scoped6.sem, .dma cc0_scoped7.sem,
  .dma cc0_scoped8.sem, .dma cc0_scoped9.sem, .dma cc0_scoped10.sem, .dma cc0_scoped11.sem,
  .dma cc0_scoped12.sem, .dma cc0_scoped13.sem, .dma cc0_scoped14.sem, .dma cc0_scoped15.sem]

theorem semOf_inj : Function.Injective semOf := by decide
theorem semOf_scoped : ∀ i, (semOf i).isScoped .scVector = true := by decide

/-- The buffers the task uses. -/
def refOf : Fin 8 → Ref sig .scVector := ![cc0_scratch0, cc0_scratch1, cc0_scratch2, cc0_scratch3, cc0_scratch4, cc0_scratch5, cc0_scratch8, cc0_scratch9]

theorem refOf_inj : Function.Injective refOf := by decide

abbrev semAt (i : SemLoc sig) : sProp 𝕄 := semVal (thr d L, i) 0

/-- The tile's other semaphores. -/
def semRest : sProp 𝕄 := bigSep (ownCells (thr d L) \ Finset.univ.image fun i => ((thr d L, semOf i) : GSem nD τ sig)) fun g => semVal g 0

theorem ownSems0_tile :
    (ownSems0 (thr d L) : sProp 𝕄) = iprop((semAt d L (.dma cc0_scratch6.sem) ∗ semAt d L (.dma cc0_scratch7.sem)
      ∗ semAt d L (.dma cc0_scoped0.sem) ∗ semAt d L (.dma cc0_scoped1.sem) ∗ semAt d L (.dma cc0_scoped2.sem) ∗ semAt d L (.dma cc0_scoped3.sem)
      ∗ semAt d L (.dma cc0_scoped4.sem) ∗ semAt d L (.dma cc0_scoped5.sem) ∗ semAt d L (.dma cc0_scoped6.sem) ∗ semAt d L (.dma cc0_scoped7.sem)
      ∗ semAt d L (.dma cc0_scoped8.sem) ∗ semAt d L (.dma cc0_scoped9.sem) ∗ semAt d L (.dma cc0_scoped10.sem) ∗ semAt d L (.dma cc0_scoped11.sem)
      ∗ semAt d L (.dma cc0_scoped12.sem) ∗ semAt d L (.dma cc0_scoped13.sem) ∗ semAt d L (.dma cc0_scoped14.sem) ∗ semAt d L (.dma cc0_scoped15.sem))
      ∗ semRest d L) := by
  unfold SparseCore.Cfg.ownSems0 semRest
  rw [bigSep_named (F := F) (f := fun i => ((thr d L, semOf i) : GSem nD τ sig))
    (fun i j e => semOf_inj (congrArg Prod.snd e)) (fun i => mem_ownCells.mpr ⟨rfl, semOf_scoped i⟩)]
  congr 1
  exact bigSep_univ_eq_bigSepL (List.finRange 18) (by decide) (by decide) _

abbrev refAt (r : Ref sig .scVector) : sProp 𝕄 := iprop(∃ f, (thr d L).loc r ↦{fullShare} f)

/-- The tile's other buffers. -/
def refRest : sProp 𝕄 := bigSep (ownRefs (τ := τ) (.scVector (cV L) (jV L)) \ Finset.univ.image fun i => (Proc.scVector (cV L) (jV L)).devRef (refOf i))
  fun b => iprop(∃ f, ((d, b) : Loc nD τ sig) ↦{fullShare} f)

theorem ownBufs_tile :
    (ownBufs (thr d L) : sProp 𝕄) = iprop((refAt d L cc0_scratch0 ∗ refAt d L cc0_scratch1 ∗ refAt d L cc0_scratch2 ∗ refAt d L cc0_scratch3
      ∗ refAt d L cc0_scratch4 ∗ refAt d L cc0_scratch5 ∗ refAt d L cc0_scratch8 ∗ refAt d L cc0_scratch9) ∗ refRest d L) := by
  unfold SparseCore.Cfg.ownBufs refRest
  refine (bigSep_named (F := F) (f := fun i => (Proc.scVector (cV L) (jV L)).devRef (refOf i))
    (fun i j e => refOf_inj (Proc.devRef_injective _ e)) (fun i => SparseCore.Cfg.mem_ownRefs_of_owner (by fin_cases i <;> rfl)) _).trans ?_
  congr 1
  exact bigSep_univ_eq_bigSepL (List.finRange 8) (by decide) (by decide) _

/-- A buffer of the tile's as the task addresses it. -/
theorem refAt_eq (r : Ref sig .scVector) :
    (refAt d L r : sProp 𝕄) = iprop(∃ f, ((View.whole r).loc (thr d L) ↦[(View.whole r).set]{fullShare} f)) := by
  rw [View.set_whole]

/-! ## The task -/

/-- What every layer takes and gives back: the shares read, the buffers, the two copies' semaphores, the debt. -/
abbrev common (A : Args F) (O : CellTallies nD τ sig (HIx 1)) (W : Waits sig (HIx 1)) : sProp 𝕄 :=
  iprop(readPts d A (lf (wid L)) ∗ bufs d L
    ∗ (∃ f, (asV.view.loc (thr d L) ↦[asV.view.set]{fullShare} f)) ∗ (∃ f, (adV.view.loc (thr d L) ↦[adV.view.set]{fullShare} f))
    ∗ semAt d L (.dma cc0_scratch6.sem) ∗ semAt d L (.dma cc0_scratch7.sem)
    ∗ (∃ W', ⌜∀ p ∈ W', p ∈ W ∨ p.2 = none⌝ ∗ owes (thr d L) O W') ∗ Transfers.MayWaits (thr d L) (default : HIx 1) O)

/-- A layer's own: its four copies' semaphores and its two rows. -/
abbrev layerPts (o : S4x2x32x50048.Idx → F .f32) (l : Fin 4) (r0 r1 r2 r3 : DmaSem sig) : sProp 𝕄 :=
  iprop((semAt d L (.dma r0) ∗ semAt d L (.dma r1) ∗ semAt d L (.dma r2) ∗ semAt d L (.dma r3)) ∗ rowPts d o (wid L) l 0 ∗ rowPts d o (wid L) l 1)

theorem layer_bind (A : Args F) (hA : A.OK) (o : Offs L) (l : Fin 4) (ho : o.At l) (r0 r1 r2 r3 : DmaSem sig)
    (O : CellTallies nD τ sig (HIx 1)) (W : Waits sig (HIx 1))
    {k : PUnit → Prog (TpuEff nD τ sig (Elt F) Λ₀ (.scVector (cV L) (jV L))) PUnit} {Q : PUnit → sProp 𝕄} :
    iprop(common d L A O W ∗ layerPts d L A.o l r0 r1 r2 r3)
      ⊢ iprop((iprop(common d L A O W ∗ layerPts d L A.res l r0 r1 r2 r3) -∗ wp frame (wpE (defs₀ (F := F)) 𝒱₀ (thr d L) none) Set.univ (k ⟨⟩) Q)
        -∗ wp frame (wpE (defs₀ (F := F)) 𝒱₀ (thr d L) none) Set.univ (layer L o r0 r1 r2 r3 >>= k) Q) := by
  unfold layerPts
  rw [wp_bind, ← orow_pts d L o.hs (s := 0) ho.s, ← orow_pts d L o.hd (s := 1) ho.d, ← orow_pts d L o.hs (s := 0) ho.s, ← orow_pts d L o.hd (s := 1) ho.d]
  iintro ⟨⟨⟨H1, H2, H3, H4⟩, Hb, HS, HD, Hm1, Hm2, HO, Hmw⟩, Hr, Ho1, Ho2⟩ Hk
  iapply (wp_wand_r frame (wpE (defs₀ (F := F)) 𝒱₀ (thr d L) none) Set.univ)
  isplitr [Hk]
  · iapply (layer_wp d L o l ho r0 r1 r2 r3 (lf (wid L)) A.fs A.fd A.fp A.z A.o hA.src hA.dst O W)
    isplitl [H1 H2 H3]
    · isplitl [H1]; · iexact H1
      isplitl [H2]; · iexact H2
      iexact H3
    isplitl [H4]; · iexact H4
    isplitl [Hb]; · iexact Hb
    isplitl [HS]; · iexact HS
    isplitl [HD]; · iexact HD
    isplitl [Hm1]; · iexact Hm1
    isplitl [Hm2]; · iexact Hm2
    isplitl [Hr]; · iexact Hr
    isplitl [Ho1]; · iexact Ho1
    isplitl [Ho2]; · iexact Ho2
    isplitl [HO]; · iexact HO
    iexact Hmw
  iintro %_ ⟨⟨H1, H2, H3⟩, H4, Hb, HS, HD, Hm1, Hm2, Hr, Ho1, Ho2, HO, Hmw⟩
  iapply Hk
  isplitr [Hr Ho1 Ho2]
  · isplitl [H1 H2 H3 H4]
    · isplitl [H1]; · iexact H1
      isplitl [H2]; · iexact H2
      isplitl [H3]; · iexact H3
      iexact H4
    isplitl [Hb]; · iexact Hb
    isplitl [HS]; · iexact HS
    isplitl [HD]; · iexact HD
    isplitl [Hm1]; · iexact Hm1
    isplitl [Hm2]; · iexact Hm2
    isplitl [HO]; · iexact HO
    iexact Hmw
  isplitl [Hr]; · iexact Hr
  isplitl [Ho1]; · iexact Ho1
  iexact Ho2

abbrev taskPay (A : Args F) (o : S4x2x32x50048.Idx → F .f32) (w : Fin 32) : sProp 𝕄 := iprop(readPts d A (lf w) ∗ rowsPts d o w)

set_option maxHeartbeats 1000000 in
-- four layers, eighteen semaphores and eight buffers
theorem tile_body (A : Args F) (hA : A.OK) (hF : (K (F := F)).Facts) (O : CellTallies nD τ sig (HIx 1)) (W : Waits sig (HIx 1)) (hO : ∀ g, O g none = 0) :
    iprop(levAts (K (F := F)).L (K (F := F)).lev ∗ emp ∗ taskPay d A A.o (wid L)
        ∗ scopedBufs (thr d L) ∗ scopedSems0 (thr d L) ∗ owes (thr d L) O W)
      ⊢ wp frame (wpE (defs₀ (F := F)) 𝒱₀ (thr d L) none) Set.univ (task L)
          fun _ => iprop(taskPay d A A.res (wid L)
            ∗ scopedBufs (thr d L) ∗ scopedSems0 (thr d L)
            ∗ ∃ W', ⌜∀ p ∈ W', p ∈ W ∨ p.2 = none⌝ ∗ owes (thr d L) O W') := by
  unfold taskPay
  rw [(K (F := F)).scopedBufs_V hF d (cV L) (jV L), SparseCore.Cfg.scopedSems0_V (Val := Elt F) d (cV L) (jV L), ownSems0_tile, ownBufs_tile,
    rowsPts_eq, rowsPts_eq, task_eq]
  simp only [refAt_eq]
  iintro ⟨#Hlv, -, ⟨Hrd, ⟨A0, B0⟩, ⟨A1, B1⟩, ⟨A2, B2⟩, ⟨A3, B3⟩⟩, ⟨⟨V0, V1, V2, V3, V4, V5, V8, V9⟩, HBr⟩, ⟨⟨M6, M7, S0, S1, S2, S3, S4, S5, S6, S7, S8, S9, S10, S11, S12, S13, S14, S15⟩, HSr⟩, HO⟩
  ihave Hmw := (show levAts (K (F := F)).L (K (F := F)).lev ⊢ Transfers.MayWaits (thr d L) (default : HIx 1) O from
    (K (F := F)).mayWaits_none (thr := thr d L) hO) $$ Hlv
  iapply (layer_bind d L A hA (offs0 L) 0 (offs0_at L) _ _ _ _ O W) $$ [Hrd A0 B0 V0 V1 V2 V3 V4 V5 V8 V9 M6 M7 S0 S1 S2 S3 HO Hmw]
  · isplitr [A0 B0 S0 S1 S2 S3]
    · isplitl [Hrd]; · iexact Hrd
      isplitl [V0 V1 V2 V3 V4 V5]
      · isplitl [V0]; · iexact V0
        isplitl [V1]; · iexact V1
        isplitl [V2]; · iexact V2
        isplitl [V3]; · iexact V3
        isplitl [V4]; · iexact V4
        iexact V5
      isplitl [V8]; · iexact V8
      isplitl [V9]; · iexact V9
      isplitl [M6]; · iexact M6
      isplitl [M7]; · iexact M7
      isplitl [HO]
      · iexists W; isplitr; · ipureintro; exact fun p hp => .inl hp
        iexact HO
      iexact Hmw
    isplitl [S0 S1 S2 S3]
    · isplitl [S0]; · iexact S0
      isplitl [S1]; · iexact S1
      isplitl [S2]; · iexact S2
      iexact S3
    isplitl [A0]; · iexact A0
    iexact B0
  iintro ⟨HC, S03, A0, B0⟩
  iapply (layer_bind d L A hA (offs1 L) 1 (offs1_at L) _ _ _ _ O W) $$ [HC A1 B1 S4 S5 S6 S7]
  · isplitl [HC]; · iexact HC
    isplitl [S4 S5 S6 S7]
    · isplitl [S4]; · iexact S4
      isplitl [S5]; · iexact S5
      isplitl [S6]; · iexact S6
      iexact S7
    isplitl [A1]; · iexact A1
    iexact B1
  iintro ⟨HC, S47, A1, B1⟩
  iapply (layer_bind d L A hA (offs2 L) 2 (offs2_at L) _ _ _ _ O W) $$ [HC A2 B2 S8 S9 S10 S11]
  · isplitl [HC]; · iexact HC
    isplitl [S8 S9 S10 S11]
    · isplitl [S8]; · iexact S8
      isplitl [S9]; · iexact S9
      isplitl [S10]; · iexact S10
      iexact S11
    isplitl [A2]; · iexact A2
    iexact B2
  iintro ⟨HC, S811, A2, B2⟩
  iapply (layer_bind d L A hA (offs3 L) 3 (offs3_at L) _ _ _ _ O W) $$ [HC A3 B3 S12 S13 S14 S15]
  · isplitl [HC]; · iexact HC
    isplitl [S12 S13 S14 S15]
    · isplitl [S12]; · iexact S12
      isplitl [S13]; · iexact S13
      isplitl [S14]; · iexact S14
      iexact S15
    isplitl [A3]; · iexact A3
    iexact B3
  iintro ⟨⟨Hrd, ⟨V0, V1, V2, V3, V4, V5⟩, V8, V9, M6, M7, HO, -⟩, ⟨S12, S13, S14, S15⟩, A3, B3⟩
  icases S03 with ⟨S0, S1, S2, S3⟩
  icases S47 with ⟨S4, S5, S6, S7⟩
  icases S811 with ⟨S8, S9, S10, S11⟩
  rw [wp_pure]
  imodintro
  isplitl [Hrd A0 B0 A1 B1 A2 B2 A3 B3]
  · isplitl [Hrd]; · iexact Hrd
    isplitl [A0 B0]; · isplitl [A0] <;> iassumption
    isplitl [A1 B1]; · isplitl [A1] <;> iassumption
    isplitl [A2 B2]; · isplitl [A2] <;> iassumption
    isplitl [A3] <;> iassumption
  isplitl [V0 V1 V2 V3 V4 V5 V8 V9 HBr]
  · isplitr [HBr]; swap; · iexact HBr
    isplitl [V0]; · iexact V0
    isplitl [V1]; · iexact V1
    isplitl [V2]; · iexact V2
    isplitl [V3]; · iexact V3
    isplitl [V4]; · iexact V4
    isplitl [V5]; · iexact V5
    isplitl [V8]; · iexact V8
    iexact V9
  isplitr [HO]; swap; · iexact HO
  isplitr [HSr]; swap; · iexact HSr
  isplitl [M6]; · iexact M6
  isplitl [M7]; · iexact M7
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  iexact S15

end Tile

end Cert.Proof.Seg

end
-- ==== Proof.Deal.lean ====
/-
  What the launch deals: the four arrays read and the result, split over the 32 workers and joined again, and the task's
  obligation from `tile_body`.
-/
module

public import proofs.«01_k».proof.Proof.Body

@[expose] public section

noncomputable section

namespace Cert.Proof.Seg

open Cert.KernelIdeal Cert.KernelIdeal.Gen

open Idealize.ShloMosaic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig (HIx 1) (Elt F) ℕ UU ℕ

/-- A point of the grid, by its two coordinates, as the launch's table builds it. -/
abbrev gridPt (c : Fin (grid0.bound 0)) (s : Fin (grid0.bound 1)) : grid0.Coords :=
  fun | 0 => c | 1 => s | ⟨_ + 2, h⟩ => absurd h (Nat.not_lt.2 (Nat.le_add_left _ _))

theorem vector_task (c : Fin τ.nSC) (s : Fin τ.nSub) :
    defs₀ (F := F) (.scVector c s) 0 () = SparseCore.onTile hcore0 hsub0 (fun c s => task (F := F) (gridPt c s)) ⟨⟩ c s := rfl

/-- The point of the grid that SparseCore `c`'s tile `i` runs. -/
abbrev lc (c : Fin ((K (F := F)).nCore 0)) (i : Fin ((K (F := F)).nSub 0)) : grid0.Coords :=
  gridPt ⟨((K (F := F)).core 0 c).val, c.isLt⟩ ⟨((K (F := F)).sub 0 i).val, i.isLt⟩

/-- The payloads: a worker's shares and rows to its task and back; a SparseCore's are its workers'. -/
def P (A : Dev nD → Args F) : (K (F := F)).Pay (nD := nD) (Val := Elt F) (Name := ℕ) (U := UU) where
  st := fun q d c => match q with
    | 0 => bigSep Finset.univ fun i : Fin ((K (F := F)).nSub 0) => taskPay d (A d) (A d).o (wid (lc c i))
  dn := fun q d c => match q with
    | 0 => bigSep Finset.univ fun i : Fin ((K (F := F)).nSub 0) => taskPay d (A d) (A d).res (wid (lc c i))
  go := fun q d c i => match q with | 0 => taskPay d (A d) (A d).o (wid (lc c i))
  td := fun q d c i => match q with | 0 => taskPay d (A d) (A d).res (wid (lc c i))
  x := fun _ _ => iprop(emp)

variable (A : Dev nD → Args F)

instance P_storable : (P A).IsStorable where
  st q d c := match q with
    | 0 => (inferInstance : BI.Storable (upEmb : UEmb _ 𝕄)
      (bigSep Finset.univ fun i : Fin ((K (F := F)).nSub 0) => taskPay d (A d) (A d).o (wid (lc c i))))
  dn q d c := match q with
    | 0 => (inferInstance : BI.Storable (upEmb : UEmb _ 𝕄)
      (bigSep Finset.univ fun i : Fin ((K (F := F)).nSub 0) => taskPay d (A d) (A d).res (wid (lc c i))))
  go q d c i := match q with | 0 => (inferInstance : BI.Storable (upEmb : UEmb _ 𝕄) (taskPay d (A d) (A d).o (wid (lc c i))))
  td q d c i := match q with | 0 => (inferInstance : BI.Storable (upEmb : UEmb _ 𝕄) (taskPay d (A d) (A d).res (wid (lc c i))))

/-- A task's recorded waits, all its own, are within what the launch allows it. -/
theorem waits_allowed {thr : Thread nD τ} {B C D : sProp 𝕄} {O : CellTallies nD τ sig (HIx 1)} {W : Waits sig (HIx 1)} {q : Fin 1} :
    iprop(B ∗ C ∗ D ∗ ∃ W', ⌜∀ p ∈ W', p ∈ W ∨ p.2 = none⌝ ∗ owes thr O W')
      ⊢ iprop(B ∗ C ∗ D ∗ ∃ W', ⌜∀ p ∈ W', p ∈ W ∨ p.2 = none ∨ p.2 = some q⌝ ∗ owes thr O W') := by
  iintro ⟨HB, HC, HD, %W', %hW, HO⟩
  isplitl [HB]; · iexact HB
  isplitl [HC]; · iexact HC
  isplitl [HD]; · iexact HD
  iexists W'
  isplitr
  · ipureintro
    intro p hp
    rcases hW p hp with h | h
    · exact Or.inl h
    · exact Or.inr (Or.inl h)
  iexact HO

set_option maxRecDepth 16384 in
-- the task's definition unfolds to the whole kernel's text
theorem tileObl (hA : ∀ d, (A d).OK) : (K (F := F)).TileObl (D (F := F)) 𝒱 (P A) v₀ 0 := by
  intro d c i O W hO _ _
  simp only [show (P A).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [vector_task]; simp only [SparseCore.onTile, hci, and_self, ↓reduceDIte]
  exact (tile_body d (lc c i) (A d) (hA d) facts O W hO).trans (wp_mono frame _ _ fun _ => waits_allowed)

theorem vecSplit : (K (F := F)).VecSplit' (P A) 0 := by
  intro d c
  show (bigSep Finset.univ fun i : Fin ((K (F := F)).nSub 0) => taskPay d (A d) (A d).o (wid (lc c i)))
    ⊢ |={Set.univ}=> iprop((bigSep Finset.univ fun i : Fin ((K (F := F)).nSub 0) => taskPay d (A d) (A d).o (wid (lc c i)))
      ∗ ((bigSep Finset.univ fun i : Fin ((K (F := F)).nSub 0) => taskPay d (A d) (A d).res (wid (lc c i)))
          -∗ (bigSep Finset.univ fun i : Fin ((K (F := F)).nSub 0) => taskPay d (A d) (A d).res (wid (lc c i)))))
  iintro H
  imodintro
  isplitl [H]; · iexact H
  iintro H; iexact H

/-! ## The arrays, whole and split -/

/-- The eight rows of the workers make the result. -/
theorem rows_cover (d : Dev nD) (o : S4x2x32x50048.Idx → F .f32) :
    (resLoc d ↦{fullShare} (o : Buf (Elt F) (resLoc d)) : sProp 𝕄) = bigSep Finset.univ fun w : Fin 32 => rowsPts d o w := by
  have hd : ∀ x ∈ (Finset.univ : Finset (Fin 32 × Fin 4 × Fin 2)), ∀ y ∈ (Finset.univ : Finset (Fin 32 × Fin 4 × Fin 2)), x ≠ y →
      Disjoint (rowS x.2.1 x.2.2 x.1) (rowS y.2.1 y.2.2 y.1) := fun x _ y _ h => Finset.disjoint_left.mpr fun i hi hj => by
    rw [mem_rowS] at hi hj
    exact h (Prod.ext (Fin.ext (hi.2.2.symm.trans hj.2.2)) (Prod.ext (Fin.ext (hi.1.symm.trans hj.1)) (Fin.ext (hi.2.1.symm.trans hj.2.1))))
  have hc : (Finset.univ : Finset (Fin 32 × Fin 4 × Fin 2)).biUnion (fun x => rowS x.2.1 x.2.2 x.1) = Finset.univ :=
    Finset.eq_univ_iff_forall.mpr fun i => Finset.mem_biUnion.mpr ⟨(⟨(i 2).val, (i 2).isLt⟩, ⟨(i 0).val, (i 0).isLt⟩, ⟨(i 1).val, (i 1).isLt⟩),
      Finset.mem_univ _, mem_rowS.mpr ⟨rfl, rfl, rfl⟩⟩
  have h := pointsTo_biUnion (Ix := HIx 1) (Name := ℕ) (U := UU) (Lvl := ℕ) (Val := Elt F) Finset.univ (ℓ := resLoc d) (q := fullShare) (f := (o : Buf (Elt F) (resLoc d)))
    (fun x : Fin 32 × Fin 4 × Fin 2 => rowS x.2.1 x.2.2 x.1) hd
  rw [show (Finset.univ : Finset (Fin 32 × Fin 4 × Fin 2)).biUnion (fun x => (rowS x.2.1 x.2.2 x.1 : Finset (Idx (resLoc d)))) = Finset.univ from hc] at h
  rw [h, bigSep_univ_prod]
  exact bigSep_congr fun w _ => bigSep_univ_prod _

/-- The five arrays, whole. -/
abbrev wholes (d : Dev nD) (A : Args F) (o : S4x2x32x50048.Idx → F .f32) : sProp 𝕄 :=
  iprop(readPts d A fullShare ∗ (resLoc d ↦{fullShare} (o : Buf (Elt F) (resLoc d))))

/-- An array whole is the workers' shares of it. -/
theorem leaves (ℓ : Loc nD τ sig) (f : Buf (Elt F) ℓ) : (ℓ ↦{fullShare} f : sProp 𝕄) = bigSep Finset.univ fun w : Fin 32 => ℓ ↦{lf w} f :=
  ShareLeaves.pointsTo_leaves Finset.univ f 5 fullShare

theorem congr_sep {B B' C C' : sProp 𝕄} (h : B = B') (h' : C = C') : iprop(B ∗ C) = iprop(B' ∗ C') := by rw [h, h']

theorem wholes_split (d : Dev nD) (A : Args F) (o : S4x2x32x50048.Idx → F .f32) :
    (wholes d A o : sProp 𝕄) = bigSep Finset.univ fun w : Fin 32 => taskPay d A o w := by
  unfold wholes taskPay readPts
  simp only [bigSep_sep']
  rw [rows_cover]
  refine congrArg (fun x => iprop(x ∗ _)) ?_
  exact congr_sep (leaves _ _) (congr_sep (leaves _ _) (congr_sep (leaves _ _) (leaves _ _)))

/-- The workers, by SparseCore and tile. -/
def workers : Fin ((K (F := F)).nCore 0) × Fin ((K (F := F)).nSub 0) ≃ Fin 32 :=
  (Equiv.prodComm _ _).trans (finProdFinEquiv (m := 16) (n := 2))

theorem workers_apply (c : Fin ((K (F := F)).nCore 0)) (i : Fin ((K (F := F)).nSub 0)) : workers (c, i) = wid (lc c i) :=
  Fin.ext (Nat.add_comm c.val (2 * i.val))

theorem bigSep_workers (Φ : Fin 32 → sProp 𝕄) :
    bigSep Finset.univ Φ = bigSep Finset.univ fun c : Fin ((K (F := F)).nCore 0) => bigSep Finset.univ fun i : Fin ((K (F := F)).nSub 0) => Φ (wid (lc c i)) := by
  rw [bigSep_univ_equiv workers, bigSep_univ_prod]
  exact bigSep_congr fun c _ => bigSep_congr fun i _ => congrArg Φ (workers_apply c i)

theorem st_eq (d : Dev nD) : (bigSep Finset.univ fun c : Fin ((K (F := F)).nCore 0) => (P A).st 0 d c) = wholes d (A d) (A d).o := by
  rw [wholes_split, bigSep_workers]
  rfl

theorem dn_eq (d : Dev nD) : (bigSep Finset.univ fun c : Fin ((K (F := F)).nCore 0) => (P A).dn 0 d c) = wholes d (A d) (A d).res := by
  rw [wholes_split, bigSep_workers]
  rfl

end Cert.Proof.Seg

end
-- ==== Proof.Finish.lean ====
/-
  The finisher, a TensorCore pipeline of 17 points: at each point the body adds to the one-word output its block's
  discounted sum of squared errors over the node count, the first point starting it from zero.
-/
module

public import proofs.«01_k».proof.Proof.Base
public import proofs.«01_k».proof.Proof.Gen.KernelIdeal.Launch
public import proofs.«01_k».proof.Proof.Gen.KernelIdeal.Points
public import Idealize.ShloMosaic.Lib.Pipeline.Frame
public import Idealize.ShloMosaic.Lib.Pipeline.FrameBody
public import Idealize.ShloMosaic.Lib.Pipeline.Value

@[expose] public section

noncomputable section

namespace Cert.Proof.Seg.Sum

open Cert.KernelIdeal Cert.KernelIdeal.Gen

open Idealize.ShloMosaic
open Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic
open Idealize.ShloMosaic.Pipeline (Dat BodyObligation)

variable {F : FTy → Type} [FloatOps F] [Named F]

local notation "𝕄" => MT nD τ sig (HIx 1) (Elt F) ℕ UU ℕ

/-! ## The body -/

/-- A block of partial sums, one row per worker, and a block of demands. -/
abbrev PBlk : Type := S32x2944.Idx → F .f32
abbrev DBlk : Type := S1x2944.Idx → F .f32

/-- What one point adds up over its block: the four layers' squared errors, discounted. -/
def part (s0 d0 s1 d1 s2 d2 s3 d3 : PBlk (F := F)) (dem : DBlk (F := F)) : F .f32 :=
  k1_pay3 (k1_pay2 s0 d0 dem s1 d1 dem) s2 d2 dem s3 d3 dem

/-- The output after one more point. -/
def step (x : F .f32) (p : F .f32) : F .f32 := k1_pay1 p x

/-- The one index of the output's block. -/
def o11 : S1x1.Idx := fun a => ⟨0, by fin_cases a <;> decide⟩

/-- A store over the one word leaves the word stored. -/
theorem read_store_one (M : Memref sig .tc .smem S1x1 .f32) (g : M.view.ty.Contents (Elt F)) (w : S1x1.Idx → F .f32) :
    M.view.read (Elt F) (M.view.writes (Elt F) g [⟨Rect.unit ![0, 0] S1x1.size inb_S1x1_S1x1_0_0, w⟩]) = w := by
  have z2 : (![0, 0] : Fin 2 → ℕ) = fun _ => 0 := by decide
  refine (View.read_writes_eq_canon M.view g _ fun y => ⟨_, List.mem_singleton_self _, ?_⟩).trans ?_
  · exact View.mem_set_unit_zero (S := S1x1) z2 inb_S1x1_S1x1_0_0 y
  · exact View.canon_unit_zero (S := S1x1) (Val := Elt F) (e := .f32) z2 inb_S1x1_S1x1_0_0 w

set_option maxRecDepth 65536 in
-- the finisher's whole text, nine blocks of 32 rows or one row and every layer's arithmetic, in one term
theorem finish_body (c : Dev nD) (i : grid1.Coords)
    (a1 : Memref sig .tc .vmem S32x2944 .f32) (h1 : a1.IsWhole) (a2 : Memref sig .tc .vmem S32x2944 .f32) (h2 : a2.IsWhole)
    (a3 : Memref sig .tc .vmem S32x2944 .f32) (h3 : a3.IsWhole) (a4 : Memref sig .tc .vmem S32x2944 .f32) (h4 : a4.IsWhole)
    (a5 : Memref sig .tc .vmem S32x2944 .f32) (h5 : a5.IsWhole) (a6 : Memref sig .tc .vmem S32x2944 .f32) (h6 : a6.IsWhole)
    (a7 : Memref sig .tc .vmem S32x2944 .f32) (h7 : a7.IsWhole) (a8 : Memref sig .tc .vmem S32x2944 .f32) (h8 : a8.IsWhole)
    (a9 : Memref sig .tc .vmem S1x2944 .f32) (h9 : a9.IsWhole) (a10 : Memref sig .tc .smem S1x1 .f32) (h10 : a10.IsWhole)
    (f1 f2 f3 f4 f5 f6 f7 f8 : PBlk (F := F)) (f9 : DBlk (F := F)) (x : S1x1.Idx → F .f32) (Q : PUnit → sProp 𝕄) :
    iprop(owns c a1 fullShare f1 ∗ owns c a2 fullShare f2 ∗ owns c a3 fullShare f3 ∗ owns c a4 fullShare f4
        ∗ owns c a5 fullShare f5 ∗ owns c a6 fullShare f6 ∗ owns c a7 fullShare f7 ∗ owns c a8 fullShare f8
        ∗ owns c a9 fullShare f9 ∗ owns c a10 fullShare x
        ∗ (iprop(owns c a1 fullShare f1 ∗ owns c a2 fullShare f2 ∗ owns c a3 fullShare f3 ∗ owns c a4 fullShare f4
            ∗ owns c a5 fullShare f5 ∗ owns c a6 fullShare f6 ∗ owns c a7 fullShare f7 ∗ owns c a8 fullShare f8
            ∗ owns c a9 fullShare f9
            ∗ owns c a10 fullShare (fun _ => step (if (i 0).val = 0 then Scalar.ofBits .f32 0x00000000#32 else x o11) (part f1 f2 f3 f4 f5 f6 f7 f8 f9)))
          -∗ Q ⟨⟩))
      ⊢ wp frame (wpE (defs₀ (F := F)) 𝒱₀ c none) Set.univ
          (cc1__finisher_body i a1 h1 a2 h2 a3 h3 a4 h4 a5 h5 a6 h6 a7 h7 a8 h8 a9 h9 a10 h10) Q := by
  rw [cc1__finisher_body_eq_skeleton]
  unfold cc1__finisher_body_skel
  rw [k1_part1_eq_skeleton, k1_part2_eq_skeleton]
  unfold k1_part1_skel k1_part2_skel
  unfold owns
  iintro ⟨⟨%g1, %e1, H1⟩, ⟨%g2, %e2, H2⟩, ⟨%g3, %e3, H3⟩, ⟨%g4, %e4, H4⟩, ⟨%g5, %e5, H5⟩, ⟨%g6, %e6, H6⟩, ⟨%g7, %e7, H7⟩,
    ⟨%g8, %e8, H8⟩, ⟨%g9, %e9, H9⟩, ⟨%g10, %e10, H10⟩, Hk⟩
  sl_exec
  have z2 : (![0, 0] : Fin 2 → ℕ) = fun _ => 0 := by decide
  have hc : (finish_body.sl.v78 i = 1#1) ↔ (i 0).val = 0 := by
    unfold finish_body.sl.v78 finish_body.sl.v77
    try unfold finish_body.sl.v76
    try unfold finish_body.sl.arg0
    generalize i 0 = n
    revert n
    decide
  have hw := read_store_one (F := F) a10
  have l32 : ∀ (a : Memref sig .tc .vmem S32x2944 .f32) (g : a.view.ty.Contents (Elt F)),
      a.view.readAt (Elt F) (Rect.unit ![0, 0] S32x2944.size inb_S32x2944_S32x2944_0_0).toLoadRect g = a.view.read (Elt F) g :=
    fun a g => View.ld_unit_zero (S := S32x2944) z2 _ _
  have l1 : ∀ g : a9.view.ty.Contents (Elt F),
      a9.view.readAt (Elt F) (Rect.unit ![0, 0] S1x2944.size inb_S1x2944_S1x2944_0_0).toLoadRect g = a9.view.read (Elt F) g :=
    fun g => View.ld_unit_zero (S := S1x2944) z2 _ _
  have hr : finish_body.sl.r_1 c i a10 g10 = if (i 0).val = 0 then Scalar.ofBits .f32 0x00000000#32 else x o11 := by
    unfold finish_body.sl.r_1
    have hf : finish_body.sl.f c i a10 g10 = if (i 0).val = 0 then (fun _ => Scalar.ofBits .f32 0x00000000#32) else x := by
      unfold finish_body.sl.f
      by_cases h0 : (i 0).val = 0
      · rw [if_pos h0, dif_pos (hc.mpr h0)]
        exact (View.ld_unit_zero (S := S1x1) z2 _ _).trans (hw _ _)
      · rw [if_neg h0, dif_neg (fun h => h0 (hc.mp h))]
        exact (View.ld_unit_zero (S := S1x1) z2 _ _).trans e10
    rw [hf]
    split
    · rfl
    · exact congrArg x (funext fun a => Fin.ext (by fin_cases a <;> rfl))
  sl_step
  iapply Hk
  isplitl [H1]; · iexists _; isplitr; swap; (· iexact H1); ipureintro; exact e1
  isplitl [H2]; · iexists _; isplitr; swap; (· iexact H2); ipureintro; exact e2
  isplitl [H3]; · iexists _; isplitr; swap; (· iexact H3); ipureintro; exact e3
  isplitl [H4]; · iexists _; isplitr; swap; (· iexact H4); ipureintro; exact e4
  isplitl [H5]; · iexists _; isplitr; swap; (· iexact H5); ipureintro; exact e5
  isplitl [H6]; · iexists _; isplitr; swap; (· iexact H6); ipureintro; exact e6
  isplitl [H7]; · iexists _; isplitr; swap; (· iexact H7); ipureintro; exact e7
  isplitl [H8]; · iexists _; isplitr; swap; (· iexact H8); ipureintro; exact e8
  isplitl [H9]; · iexists _; isplitr; swap; (· iexact H9); ipureintro; exact e9
  iexists _; isplitr; swap; (· iexact H10)
  ipureintro
  refine (hw _ _).trans (funext fun _ => ?_)
  unfold step part
  rw [l32 a1, l32 a2, l32 a3, l32 a4, l32 a5, l32 a6, l32 a7, l32 a8, l1, e1, e2, e3, e4, e5, e6, e7, e8, e9, hr]

/-! ## The proof data, at an entry valuation -/

variable (Wv : (c : Dev nD) → (b : Ref sig .tc) → Buf (Elt F) ((c.tc : Thread nD τ).loc b))

/-- A window's block at a point, read off its array. -/
abbrev blk (c : Dev nD) (w : Fin cfg1.W) (t : Fin cfg1.N) : ((cfg1.win w).xblock (cfg1.grid.coords t)).Idx → Elt F (cfg1.win w).elt :=
  ((cfg1.win w).blk t).view.read (Elt F) (Wv c (Pipeline.arrRef spec1 w))

/-- What point `t` adds up. -/
def partAt (c : Dev nD) (t : Fin cfg1.N) : F .f32 :=
  part (blk Wv c 0 t) (blk Wv c 1 t) (blk Wv c 2 t) (blk Wv c 3 t) (blk Wv c 4 t) (blk Wv c 5 t) (blk Wv c 6 t) (blk Wv c 7 t) (blk Wv c 8 t)

/-- Point `n` of the grid, `n` taken modulo its extent. -/
def gpt (n : ℕ) : Fin cfg1.N := ⟨n % cfg1.N, Nat.mod_lt _ (by decide)⟩

/-- The output word after the first `n` points. -/
def accAt (c : Dev nD) : ℕ → F .f32
  | 0 => Scalar.ofBits .f32 0x00000000#32
  | n + 1 => step (accAt c n) (partAt Wv c (gpt n))

/-- The proof data: the arrays at the valuation; after the body each input's buffer as fetched and the output's at the
    running sum; nothing else held, nothing owed, the recorded waits low enough for the launch's state after the call. -/
def dat (c : Dev nD) : Dat τ (Elt F) (HIx 1) ℕ UU ℕ cfg1 c where
  A w := Wv c (Pipeline.arrRef spec1 w)
  after w t := match w with
    | ⟨0, _⟩ => blk Wv c 0 t
    | ⟨1, _⟩ => blk Wv c 1 t
    | ⟨2, _⟩ => blk Wv c 2 t
    | ⟨3, _⟩ => blk Wv c 3 t
    | ⟨4, _⟩ => blk Wv c 4 t
    | ⟨5, _⟩ => blk Wv c 5 t
    | ⟨6, _⟩ => blk Wv c 6 t
    | ⟨7, _⟩ => blk Wv c 7 t
    | ⟨8, _⟩ => blk Wv c 8 t
    | ⟨9, _⟩ => fun _ => accAt Wv c (t.val + 1)
  Φ _ := BI.emp
  q _ := fullShare
  owed _ := 0
  recorded _ := {p | (K (F := F)).lev ((c.tc : Thread nD τ), p.1) p.2 ≤ 8}

theorem before_in0 (c : Dev nD) (t : Fin cfg1.N) (d) : (dat Wv c).before 0 t d = blk Wv c 0 t :=
  ((dat Wv c).before_fetched 0 t (fetch1_0 t) d).trans rfl
theorem before_in1 (c : Dev nD) (t : Fin cfg1.N) (d) : (dat Wv c).before 1 t d = blk Wv c 1 t :=
  ((dat Wv c).before_fetched 1 t (fetch1_1 t) d).trans rfl
theorem before_in2 (c : Dev nD) (t : Fin cfg1.N) (d) : (dat Wv c).before 2 t d = blk Wv c 2 t :=
  ((dat Wv c).before_fetched 2 t (fetch1_2 t) d).trans rfl
theorem before_in3 (c : Dev nD) (t : Fin cfg1.N) (d) : (dat Wv c).before 3 t d = blk Wv c 3 t :=
  ((dat Wv c).before_fetched 3 t (fetch1_3 t) d).trans rfl
theorem before_in4 (c : Dev nD) (t : Fin cfg1.N) (d) : (dat Wv c).before 4 t d = blk Wv c 4 t :=
  ((dat Wv c).before_fetched 4 t (fetch1_4 t) d).trans rfl
theorem before_in5 (c : Dev nD) (t : Fin cfg1.N) (d) : (dat Wv c).before 5 t d = blk Wv c 5 t :=
  ((dat Wv c).before_fetched 5 t (fetch1_5 t) d).trans rfl
theorem before_in6 (c : Dev nD) (t : Fin cfg1.N) (d) : (dat Wv c).before 6 t d = blk Wv c 6 t :=
  ((dat Wv c).before_fetched 6 t (fetch1_6 t) d).trans rfl
theorem before_in7 (c : Dev nD) (t : Fin cfg1.N) (d) : (dat Wv c).before 7 t d = blk Wv c 7 t :=
  ((dat Wv c).before_fetched 7 t (fetch1_7 t) d).trans rfl
theorem before_in8 (c : Dev nD) (t : Fin cfg1.N) (d) : (dat Wv c).before 8 t d = blk Wv c 8 t :=
  ((dat Wv c).before_fetched 8 t (fetch1_8 t) d).trans rfl

theorem before_out (c : Dev nD) (t : Fin cfg1.N) (ht : t.val ≠ 0) (d) : (dat Wv c).before 9 t d = fun _ => accAt Wv c t.val := by
  have hfl : (cfg1.win 9).flush ⟨t.val - 1, Nat.lt_of_le_of_lt (Nat.sub_le _ _) t.isLt⟩ = false := by
    rw [← Bool.not_eq_true, flush1_9]
    have := t.isLt
    have hN : cfg1.N = 17 := N_1
    dsimp only
    omega
  rw [(dat Wv c).before_out_kept 9 rfl t ht hfl (fun _ => rfl) (fun _ _ => rfl)]
  show (fun _ => accAt Wv c (t.val - 1 + 1)) = _
  rw [Nat.sub_add_cancel (Nat.pos_of_ne_zero ht)]

theorem coord1 : ∀ t : Fin cfg1.N, (grid1.coords t 0).val = t.val :=
  (by decide : ∀ t : Fin grid1.N, (grid1.coords t 0).val = t.val)

theorem gpt_val (t : Fin cfg1.N) : gpt t.val = t := Fin.ext (Nat.mod_eq_of_lt t.isLt)

/-- The running sum's step at a point, from what the body finds in the output's buffer. -/
theorem acc_step (c : Dev nD) (t : Fin cfg1.N) (d) :
    step (if (grid1.coords t 0).val = 0 then Scalar.ofBits .f32 0x00000000#32 else (dat Wv c).before 9 t d o11) (partAt Wv c t)
      = accAt Wv c (t.val + 1) := by
  show _ = step (accAt Wv c t.val) (partAt Wv c (gpt t.val))
  rw [gpt_val, coord1]
  by_cases ht : t.val = 0
  · rw [if_pos ht, ht]; rfl
  · rw [if_neg ht, before_out Wv c t ht]

theorem body_obligation (c : Dev nD) : BodyObligation (dat Wv c) (defs₀ (F := F)) 𝒱₀ (none : HIx 1) Set.univ := fun t => by
  rw [bigSep_W1, bigSep_W1, show (dat Wv c).Φ t.castSucc = (dat Wv c).Φ t.succ from rfl,
    show (dat Wv c).owesAt (none : HIx 1) t.castSucc = (dat Wv c).owesAt (none : HIx 1) t.succ from rfl]
  iintro ⟨HΦ, Howes, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  rw [before_in0, before_in1, before_in2, before_in3, before_in4, before_in5, before_in6, before_in7, before_in8]
  iapply (finish_body c (grid1.coords t) (st1_0 t) (hstage1_0 ((cfg1.slots t 0).cast nbuf1_0))
    (st1_1 t) (hstage1_1 ((cfg1.slots t 1).cast nbuf1_1)) (st1_2 t) (hstage1_2 ((cfg1.slots t 2).cast nbuf1_2))
    (st1_3 t) (hstage1_3 ((cfg1.slots t 3).cast nbuf1_3)) (st1_4 t) (hstage1_4 ((cfg1.slots t 4).cast nbuf1_4))
    (st1_5 t) (hstage1_5 ((cfg1.slots t 5).cast nbuf1_5)) (st1_6 t) (hstage1_6 ((cfg1.slots t 6).cast nbuf1_6))
    (st1_7 t) (hstage1_7 ((cfg1.slots t 7).cast nbuf1_7)) (st1_8 t) (hstage1_8 ((cfg1.slots t 8).cast nbuf1_8))
    (st1_9 t) (hstage1_9 ((cfg1.slots t 9).cast nbuf1_9))
    (blk Wv c 0 t) (blk Wv c 1 t) (blk Wv c 2 t) (blk Wv c 3 t) (blk Wv c 4 t) (blk Wv c 5 t) (blk Wv c 6 t) (blk Wv c 7 t)
    (blk Wv c 8 t) ((dat Wv c).before 9 t d9))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro ⟨H0, H1, H2, H3, H4, H5, H6, H7, H8, H9⟩
  isplitl [HΦ]; · iexact HΦ
  isplitl [Howes]; · iexact Howes
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  rw [show (step (if (grid1.coords t 0).val = 0 then Scalar.ofBits .f32 0x00000000#32 else (dat Wv c).before 9 t d9 o11)
      (part (blk Wv c 0 t) (blk Wv c 1 t) (blk Wv c 2 t) (blk Wv c 3 t) (blk Wv c 4 t) (blk Wv c 5 t) (blk Wv c 6 t) (blk Wv c 7 t)
        (blk Wv c 8 t))) = accAt Wv c (t.val + 1) from acc_step Wv c t d9]
  iexact H9

end Cert.Proof.Seg.Sum

end
-- ==== Proof.Region.lean ====
/-
  The finisher's region: its output array after the last point, and the record under which @main enters the pipeline.
-/
module

public import proofs.«01_k».proof.Proof.Finish
public import Idealize.ShloMosaic.Lib.Pipeline.RegionsLoop

@[expose] public section

noncomputable section

namespace Cert.Proof.Seg.Sum

open Cert.KernelIdeal Cert.KernelIdeal.Gen

open Idealize.ShloMosaic
open Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic
open Idealize.ShloMosaic.Pipeline (Dat BodyObligation)

variable {F : FTy → Type} [FloatOps F] [Named F]

local notation "𝕄" => MT nD τ sig (HIx 1) (Elt F) ℕ UU ℕ

variable (Wv : (c : Dev nD) → (b : Ref sig .tc) → Buf (Elt F) ((c.tc : Thread nD τ).loc b))

/-- The output array at the end: the last point's running sum. -/
theorem arr_out (c : Dev nD) : (dat Wv c).arrAt 9 cfg1.N = fun _ => accAt Wv c 17 := by
  have hN : cfg1.N = 17 := N_1
  refine (dat Wv c).arrAt_eq_of_cover 9 _ (fun t ht => ?_) (fun i => ?_)
  · rw [flush1_9] at ht
    have hv : t.val = 16 := by
      have := t.isLt
      omega
    show (fun _ => accAt Wv c (t.val + 1)) = _
    rw [hv]
    rfl
  · have h16 : 16 < cfg1.N := by rw [hN]; decide
    have h1 : ∀ a, (main_v34 : Ref sig .tc).ty.shape.size a = 1 := by decide
    have hu : ∀ x y : (main_v34 : Ref sig .tc).ty.Idx, x = y := fun x y => funext fun a => Fin.ext (by
      have hx := (x a).isLt
      have hy := (y a).isLt
      have ha := h1 a
      omega)
    refine ⟨⟨16, h16⟩, (flush1_9 _).mpr (show 16 % 17 = 16 by decide), ?_⟩
    have he := View.emb_mem_set ((cfg1.win 9).blk ⟨16, h16⟩).view o11
    rw [show ((cfg1.win 9).blk ⟨16, h16⟩).view.emb o11 = (i : (main_v34 : Ref sig .tc).ty.Idx) from hu _ _] at he
    exact he

abbrev adm : (p : Fin 1) → (pcfgs (F := F) p).Adm := fun p => (cfgs p).toPCfg_adm

/-- The pipeline's proof data, as the region record takes them. -/
def pdats : (p : Fin 1) → (c : Dev nD) → Dat τ (Elt F) (HIx 1) ℕ UU ℕ (Pipeline.pin (pcfgs (F := F)) adm p) c
  | ⟨0, _⟩ => fun c => dat Wv c

/-- A valuation with one buffer replaced. -/
def setV (V : Valuation τ sig (Elt F)) (r : Ref sig .tc) (x : r.ty.Contents (Elt F)) : Valuation τ sig (Elt F) :=
  Function.update V (Proc.devRef .tc r) x

theorem setV_self (V : Valuation τ sig (Elt F)) (r : Ref sig .tc) (x : r.ty.Contents (Elt F)) : setV V r x (Proc.devRef .tc r) = x :=
  Function.update_self _ _ _

theorem setV_ne (V : Valuation τ sig (Elt F)) (r : Ref sig .tc) (x : r.ty.Contents (Elt F)) {b : Ref sig .tc} (h : b ≠ r) :
    setV V r x (Proc.devRef .tc b) = V (Proc.devRef .tc b) :=
  Function.update_of_ne (fun e => h (Proc.devRef_injective _ e)) _ _

variable (V : Dev nD → Valuation τ sig (Elt F))

/-- What the finisher adds up, its arrays at a valuation. -/
def total (c : Dev nD) : F .f32 := accAt (fun c b => V c (Proc.devRef .tc b)) c 17

/-- The valuation the region leaves. -/
def outV (c : Dev nD) : Valuation τ sig (Elt F) := setV (V c) main_v34 (fun _ => total V c)

-- the library's statements name the launch's configuration through the pinned family, which unification has to unfold
set_option backward.isDefEq.respectTransparency.types false in
/-- The finisher's region, entered with every array of @main at `V` and nothing owed, left with the output replaced. -/
def reg (R : Dev nD → sProp 𝕄) :
    Pipeline.RegionSeg (pcfgs (F := F)) adm (pdats fun c b => V c (Proc.devRef .tc b)) (none : HIx 1) defs₀ 𝒱₀
      (K (F := F)).L (K (F := F)).lev 0 where
  win := launch1.win.to₀
  block_pos := launch1.block_pos
  stage_whole := launch1.stage_whole
  K := PEmpty
  osem k := k.elim
  ho := Pipeline.OwnSemFacts.none _
  hbody c := (body_obligation (fun c b => V c (Proc.devRef .tc b)) c).loose
  hwaits := Pipeline.hwaits_of_owed_zero _ _ _ _ _ _ 0 fun _ _ => rfl
  pre c := iprop(StableHlo.held (c.tc : Thread nD τ) (Pipeline.ucRefs τ sig) (V c) ∗ R c
    ∗ ∃ W, ⌜(K (F := F)).WBelow (SparseCore.T c) W 8⌝ ∗ owes (c : Thread nD τ) (0 : CellTallies nD τ sig (HIx 1)) W)
  post c := iprop(StableHlo.held (c.tc : Thread nD τ) (Pipeline.ucRefs τ sig) (outV V c) ∗ R c
    ∗ ∃ W, ⌜(K (F := F)).WBelow (SparseCore.T c) W 8⌝ ∗ owes (c : Thread nD τ) (0 : CellTallies nD τ sig (HIx 1)) W)
  X _ := BI.emp
  Y _ := BI.emp
  Z c := iprop(Pipeline.unscopedRest (Ix := HIx 1) (Name := ℕ) (U := UU) (Lvl := ℕ) spec1 c (fun b => V c (Proc.devRef .tc b)) ∗ R c)
  hentry c := by
    rw [Pipeline.ownSems0_none,
      show StableHlo.held (c.tc : Thread nD τ) (Pipeline.ucRefs τ sig) (V c) = unscopedBufs c (fun b => V c (Proc.devRef .tc b))
        from (Pipeline.unscopedBufs_held (Ix := HIx 1) (Name := ℕ) (U := UU) (Lvl := ℕ) c (V c)).symm]
    have hsplit := Pipeline.arrays_of_unscopedBufs (p := 0) (pcfgs (F := F)) adm (pdats fun c b => V c (Proc.devRef .tc b)) launch1.win
      launch1.arr_whole c ((pdats (fun c b => V c (Proc.devRef .tc b)) 0 c).share_full fun _ => rfl) (fun b => V c (Proc.devRef .tc b)) fun _ => rfl
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    isplitl [Hrest] <;> iassumption
  hin c := by
    rw [show Pipeline.scopedRest (Pipeline.pin (pcfgs (F := F)) adm 0).spec c = (BI.emp : sProp 𝕄) from scopedRest1_eq c]
    rw [show (pdats (fun c b => V c (Proc.devRef .tc b)) 0 c).Φ 0 = (BI.emp : sProp 𝕄) from rfl]
    iintro ⟨-, -, Hr⟩; iexact Hr
  hout c := by
    rw [Pipeline.ownSems0_none, show Pipeline.scopedRest (Pipeline.pin (pcfgs (F := F)) adm 0).spec c = (BI.emp : sProp 𝕄) from scopedRest1_eq c]
    rw [show (pdats (fun c b => V c (Proc.devRef .tc b)) 0 c).Φ (Fin.last _) = (BI.emp : sProp 𝕄) from rfl]
    iintro Hr
    isplitr; · iempintro
    isplitr; · iempintro
    iexact Hr
  hexit c := by
    rw [show StableHlo.held (c.tc : Thread nD τ) (Pipeline.ucRefs τ sig) (outV V c) = unscopedBufs c (fun b => outV V c (Proc.devRef .tc b))
        from (Pipeline.unscopedBufs_held (Ix := HIx 1) (Name := ℕ) (U := UU) (Lvl := ℕ) c (outV V c)).symm]
    have hjoin := Pipeline.unscopedBufs_of_arrays (p := 0) (pcfgs (F := F)) adm (Ix := HIx 1) (Name := ℕ) (U := UU) (Lvl := ℕ) launch1.win
      launch1.arr_whole c (pdats fun c b => V c (Proc.devRef .tc b))
      ((pdats (fun c b => V c (Proc.devRef .tc b)) 0 c).share_full fun _ => rfl) (fun b => V c (Proc.devRef .tc b))
      (fun b => outV V c (Proc.devRef .tc b)) ((pdats (fun c b => V c (Proc.devRef .tc b)) 0 c).arrAt · cfg1.N)
      (fun w => by
        by_cases hw : w = 9
        · subst hw
          exact (arr_out (fun c b => V c (Proc.devRef .tc b)) c).trans (setV_self _ _ _).symm
        · have hin : ∀ w : Fin cfg1.W, w ≠ 9 → (cfg1.win w).isOut = false ∧ Pipeline.arrRef spec1 w ≠ main_v34 := by decide
          exact ((dat (fun c b => V c (Proc.devRef .tc b)) c).arrAt_in w (hin w hw).1 _).trans (setV_ne _ _ _ (hin w hw).2).symm)
      (fun b hb => setV_ne _ _ _ fun h => hb (h ▸ Finset.mem_image.mpr ⟨9, Finset.mem_univ _, rfl⟩))
    iintro ⟨Ha, HO, -, Hrest, HR⟩
    imodintro
    isplitl [Ha Hrest]
    · iapply hjoin; isplitl [Ha] <;> iassumption
    isplitl [HR]; · iexact HR
    unfold Pipeline.Dat.owesAt Pipeline.owesWithin
    icases HO with ⟨%W, %hW, HO⟩; iexists W
    isplitr
    · ipureintro
      intro p hp
      rcases hW hp with h | ⟨w, s, rfl⟩
      · exact h
      · exact Nat.zero_le _
    iexact HO

end Cert.Proof.Seg.Sum

end
-- ==== Proof.Host.lean ====
/-
  @main around the two kernels: its host operations as lists, what each stretch leaves, the launch, and the program's run.
-/
module

public import proofs.«01_k».proof.Proof.Deal
public import proofs.«01_k».proof.Proof.Region
public import Idealize.ShloMosaic.Lib.StableHlo.RunRead

@[expose] public section

noncomputable section

namespace Cert.Proof.Seg

open Cert.KernelIdeal Cert.KernelIdeal.Gen
open Cert.Proof.Seg.Sum

open Idealize.ShloMosaic
open Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic

variable {F : FTy → Type} [FloatOps F] [Named F]

local notation "𝕄" => MT nD τ sig (HIx 1) (Elt F) ℕ UU ℕ

/-! ## The host operations -/

/-- @main's operations before the SparseCore call: the padded edge lists, the padded transposed values, the zeros. -/
def preOps : List (HloOp τ sig (Elt F)) := [
  StableHlo.unary main_arg4 main_v0 ((extractStridedSlice S1x1600000 ![0, 0] · slices_S2x1600000_S1x1600000_0_0) : (⟨S2x1600000, .i32⟩ : BufTy).Contents (Elt F) → (⟨S1x1600000, .i32⟩ : BufTy).Contents (Elt F)),
  StableHlo.reshape main_v0 main_v1 (rfl : (.i32 : EltTy) = .i32) shapeCasts_S1x1600000_S1600000,
  StableHlo.nullary main_c (constantI S_ 32 0#32),
  StableHlo.unary main_c main_v2 (broadcastInDim S5632 ![] bcast_S_S5632 : (⟨S_, .i32⟩ : BufTy).Contents (Elt F) → (⟨S5632, .i32⟩ : BufTy).Contents (Elt F)),
  StableHlo.binary main_v1 main_v2 main_v3 ((fun a b => concatenate S1605632 0 [⟨S1600000, a⟩, ⟨S5632, b⟩] concatenates_S1600000_S5632_S1605632_d0) : (⟨S1600000, .i32⟩ : BufTy).Contents (Elt F) → (⟨S5632, .i32⟩ : BufTy).Contents (Elt F) → (⟨S1605632, .i32⟩ : BufTy).Contents (Elt F)),
  StableHlo.unary main_arg4 main_v4 ((extractStridedSlice S1x1600000 ![1, 0] · slices_S2x1600000_S1x1600000_1_0) : (⟨S2x1600000, .i32⟩ : BufTy).Contents (Elt F) → (⟨S1x1600000, .i32⟩ : BufTy).Contents (Elt F)),
  StableHlo.reshape main_v4 main_v5 (rfl : (.i32 : EltTy) = .i32) shapeCasts_S1x1600000_S1600000,
  StableHlo.nullary main_c_0 (constantI S_ 32 0#32),
  StableHlo.unary main_c_0 main_v6 (broadcastInDim S5632 ![] bcast_S_S5632 : (⟨S_, .i32⟩ : BufTy).Contents (Elt F) → (⟨S5632, .i32⟩ : BufTy).Contents (Elt F)),
  StableHlo.binary main_v5 main_v6 main_v7 ((fun a b => concatenate S1605632 0 [⟨S1600000, a⟩, ⟨S5632, b⟩] concatenates_S1600000_S5632_S1605632_d0) : (⟨S1600000, .i32⟩ : BufTy).Contents (Elt F) → (⟨S5632, .i32⟩ : BufTy).Contents (Elt F) → (⟨S1605632, .i32⟩ : BufTy).Contents (Elt F)),
  StableHlo.unary main_arg0 main_v8 ((transpose S4x1600000 [1, 0] · transposes_S1600000x4_S4x1600000_1_0) : (⟨S1600000x4, .f32⟩ : BufTy).Contents (Elt F) → (⟨S4x1600000, .f32⟩ : BufTy).Contents (Elt F)),
  StableHlo.nullary main_cst (constant S_ .f32 0x00000000#32),
  StableHlo.unary main_cst main_v9 (broadcastInDim S4x5632 ![] bcast_S_S4x5632 : (⟨S_, .f32⟩ : BufTy).Contents (Elt F) → (⟨S4x5632, .f32⟩ : BufTy).Contents (Elt F)),
  StableHlo.binary main_v8 main_v9 main_v10 ((fun a b => concatenate S4x1605632 1 [⟨S4x1600000, a⟩, ⟨S4x5632, b⟩] concatenates_S4x1600000_S4x5632_S4x1605632_d1) : (⟨S4x1600000, .f32⟩ : BufTy).Contents (Elt F) → (⟨S4x5632, .f32⟩ : BufTy).Contents (Elt F) → (⟨S4x1605632, .f32⟩ : BufTy).Contents (Elt F)),
  StableHlo.nullary main_cst_1 (constant S_ .f32 0x00000000#32),
  StableHlo.unary main_cst_1 main_v11 (broadcastInDim S50048 ![] bcast_S_S50048 : (⟨S_, .f32⟩ : BufTy).Contents (Elt F) → (⟨S50048, .f32⟩ : BufTy).Contents (Elt F))]

/-- @main's operations between the two kernels: the padded demands, and the eight groups of partial rows. -/
def midOps : List (HloOp τ sig (Elt F)) := [
  StableHlo.unary main_arg3 main_v13 ((extractStridedSlice S50000x1 ![0, 0] · slices_S50000x128_S50000x1_0_0) : (⟨S50000x128, .f32⟩ : BufTy).Contents (Elt F) → (⟨S50000x1, .f32⟩ : BufTy).Contents (Elt F)),
  StableHlo.reshape main_v13 main_v14 (rfl : (.f32 : EltTy) = .f32) shapeCasts_S50000x1_S50000,
  StableHlo.nullary main_cst_2 (constant S_ .f32 0x00000000#32),
  StableHlo.unary main_cst_2 main_v15 (broadcastInDim S48 ![] bcast_S_S48 : (⟨S_, .f32⟩ : BufTy).Contents (Elt F) → (⟨S48, .f32⟩ : BufTy).Contents (Elt F)),
  StableHlo.binary main_v14 main_v15 main_v16 ((fun a b => concatenate S50048 0 [⟨S50000, a⟩, ⟨S48, b⟩] concatenates_S50000_S48_S50048_d0) : (⟨S50000, .f32⟩ : BufTy).Contents (Elt F) → (⟨S48, .f32⟩ : BufTy).Contents (Elt F) → (⟨S50048, .f32⟩ : BufTy).Contents (Elt F)),
  StableHlo.reshape main_v16 main_v17 (rfl : (.f32 : EltTy) = .f32) shapeCasts_S50048_S1x50048,
  StableHlo.unary main_v12 main_v18 ((extractStridedSlice S1x1x32x50048 ![0, 0, 0, 0] · slices_S4x2x32x50048_S1x1x32x50048_0_0_0_0) : (⟨S4x2x32x50048, .f32⟩ : BufTy).Contents (Elt F) → (⟨S1x1x32x50048, .f32⟩ : BufTy).Contents (Elt F)),
  StableHlo.reshape main_v18 main_v19 (rfl : (.f32 : EltTy) = .f32) shapeCasts_S1x1x32x50048_S32x50048,
  StableHlo.unary main_v12 main_v20 ((extractStridedSlice S1x1x32x50048 ![0, 1, 0, 0] · slices_S4x2x32x50048_S1x1x32x50048_0_1_0_0) : (⟨S4x2x32x50048, .f32⟩ : BufTy).Contents (Elt F) → (⟨S1x1x32x50048, .f32⟩ : BufTy).Contents (Elt F)),
  StableHlo.reshape main_v20 main_v21 (rfl : (.f32 : EltTy) = .f32) shapeCasts_S1x1x32x50048_S32x50048,
  StableHlo.unary main_v12 main_v22 ((extractStridedSlice S1x1x32x50048 ![1, 0, 0, 0] · slices_S4x2x32x50048_S1x1x32x50048_1_0_0_0) : (⟨S4x2x32x50048, .f32⟩ : BufTy).Contents (Elt F) → (⟨S1x1x32x50048, .f32⟩ : BufTy).Contents (Elt F)),
  StableHlo.reshape main_v22 main_v23 (rfl : (.f32 : EltTy) = .f32) shapeCasts_S1x1x32x50048_S32x50048,
  StableHlo.unary main_v12 main_v24 ((extractStridedSlice S1x1x32x50048 ![1, 1, 0, 0] · slices_S4x2x32x50048_S1x1x32x50048_1_1_0_0) : (⟨S4x2x32x50048, .f32⟩ : BufTy).Contents (Elt F) → (⟨S1x1x32x50048, .f32⟩ : BufTy).Contents (Elt F)),
  StableHlo.reshape main_v24 main_v25 (rfl : (.f32 : EltTy) = .f32) shapeCasts_S1x1x32x50048_S32x50048,
  StableHlo.unary main_v12 main_v26 ((extractStridedSlice S1x1x32x50048 ![2, 0, 0, 0] · slices_S4x2x32x50048_S1x1x32x50048_2_0_0_0) : (⟨S4x2x32x50048, .f32⟩ : BufTy).Contents (Elt F) → (⟨S1x1x32x50048, .f32⟩ : BufTy).Contents (Elt F)),
  StableHlo.reshape main_v26 main_v27 (rfl : (.f32 : EltTy) = .f32) shapeCasts_S1x1x32x50048_S32x50048,
  StableHlo.unary main_v12 main_v28 ((extractStridedSlice S1x1x32x50048 ![2, 1, 0, 0] · slices_S4x2x32x50048_S1x1x32x50048_2_1_0_0) : (⟨S4x2x32x50048, .f32⟩ : BufTy).Contents (Elt F) → (⟨S1x1x32x50048, .f32⟩ : BufTy).Contents (Elt F)),
  StableHlo.reshape main_v28 main_v29 (rfl : (.f32 : EltTy) = .f32) shapeCasts_S1x1x32x50048_S32x50048,
  StableHlo.unary main_v12 main_v30 ((extractStridedSlice S1x1x32x50048 ![3, 0, 0, 0] · slices_S4x2x32x50048_S1x1x32x50048_3_0_0_0) : (⟨S4x2x32x50048, .f32⟩ : BufTy).Contents (Elt F) → (⟨S1x1x32x50048, .f32⟩ : BufTy).Contents (Elt F)),
  StableHlo.reshape main_v30 main_v31 (rfl : (.f32 : EltTy) = .f32) shapeCasts_S1x1x32x50048_S32x50048,
  StableHlo.unary main_v12 main_v32 ((extractStridedSlice S1x1x32x50048 ![3, 1, 0, 0] · slices_S4x2x32x50048_S1x1x32x50048_3_1_0_0) : (⟨S4x2x32x50048, .f32⟩ : BufTy).Contents (Elt F) → (⟨S1x1x32x50048, .f32⟩ : BufTy).Contents (Elt F)),
  StableHlo.reshape main_v32 main_v33 (rfl : (.f32 : EltTy) = .f32) shapeCasts_S1x1x32x50048_S32x50048]

/-- @main's operation after the finisher: the result as a scalar. -/
def postOps : List (HloOp τ sig (Elt F)) := [
  StableHlo.reshape main_v34 main_v35 (rfl : (.f32 : EltTy) = .f32) shapeCasts_S1x1_S_]

/-- The call of the finisher's region, in @main's signature. -/
abbrev finCall : Prog (TpuEff nD τ sig (Elt F) (SparseCore.Sig (ΛP (F := F)) 1) .tc) PUnit :=
  SparseCore.liftProg (Prog.op (.customCall (Pipeline.entry (0 : Fin 1)) ()) Prog.ret)

theorem main_eq (d : Dev nD) : main (F := F) d
    = (StableHlo.seq preOps >>= fun _ => (K (F := F)).run d 0 >>= fun _ => StableHlo.seq midOps >>= fun _ =>
        finCall >>= fun _ => StableHlo.seq postOps >>= fun _ => pure ⟨⟩) := by
  rw [StableHlo.seq_bind_seqK preOps, StableHlo.seq_bind_seqK midOps, StableHlo.seq_bind_seqK postOps]
  rfl

/-- Every host operation touches only @main's own arrays. -/
theorem ops_sub : ∀ op ∈ preOps (F := F) ++ (midOps ++ postOps), op.bufs ⊆ Pipeline.ucRefs τ sig := by
  have h : (preOps (F := F) ++ (midOps ++ postOps)).Forall fun op : HloOp τ sig (Elt F) => op.bufs ⊆ StableHlo.tcRefs τ sig := by
    simp only [preOps, midOps, postOps, List.cons_append, List.nil_append, List.Forall, StableHlo.nullary_bufs_sub, StableHlo.unary_bufs_sub,
      StableHlo.binary_bufs_sub, StableHlo.reshape_bufs_sub, _root_.and_self]
  exact fun op hop => Pipeline.sub_ucRefs op (List.forall_iff_forall_mem.mp h op hop)

/-- No host operation writes an array with contents of its own choosing. -/
theorem ops_fresh : ∀ op ∈ preOps (F := F) ++ (midOps ++ postOps), op.fresh = ∅ :=
  List.forall_iff_forall_mem.mp (StableHlo.forall_fresh_of_map rfl)

end Cert.Proof.Seg

end
-- ==== Proof.Run.lean ====
/-
  The launch of the whole program: @main's thread state by state, the ghost state it starts from, and the run, which ends
  with the arguments unchanged and the result at what the two kernels compute of them.
-/
module

public import proofs.«01_k».proof.Proof.Host

@[expose] public section

noncomputable section

namespace Cert.Proof.Seg

open Cert.KernelIdeal Cert.KernelIdeal.Gen
open Cert.Proof.Seg.Sum

open Idealize.ShloMosaic
open Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic

variable {F : FTy → Type} [FloatOps F] [Named F]

local notation "𝕄" => MT nD τ sig (HIx 1) (Elt F) ℕ UU ℕ

variable (m : (ℓ : Loc nD τ sig) → Buf (Elt F) ℓ) (ρ : Dev nD → PrngReg)

/-! ## The arrays, stretch by stretch -/

/-- At the launch. -/
def V0 (d : Dev nD) : Valuation τ sig (Elt F) := fun b => m (d, b)
/-- Before the SparseCore call. -/
def V1 (d : Dev nD) : Valuation τ sig (Elt F) := StableHlo.after preOps (V0 m d)

/-- What the SparseCore kernel is given. -/
def args (d : Dev nD) : Args F where
  fs := V1 m d (Proc.devRef .tc main_v3)
  fd := V1 m d (Proc.devRef .tc main_v7)
  fp := V1 m d (Proc.devRef .tc main_v10)
  z := V1 m d (Proc.devRef .tc main_v11)
  o := V1 m d (Proc.devRef .tc main_v12)

/-- After the SparseCore call. -/
def V2 (d : Dev nD) : Valuation τ sig (Elt F) := setV (V1 m d) main_v12 (args m d).res
/-- Before the finisher. -/
def V3 (d : Dev nD) : Valuation τ sig (Elt F) := StableHlo.after midOps (V2 m d)
/-- At the end. -/
def V4 (d : Dev nD) : Valuation τ sig (Elt F) := StableHlo.after postOps (Sum.outV (V3 m) d)

/-! ## The SparseCore call's arrays among @main's -/

/-- The five arrays the SparseCore call takes. -/
def scRefs : Finset (DevRef τ sig) :=
  {Proc.devRef .tc main_v3, Proc.devRef .tc main_v7, Proc.devRef .tc main_v10, Proc.devRef .tc main_v11, Proc.devRef .tc main_v12}

theorem scRefs_sub : scRefs ⊆ Pipeline.ucRefs τ sig := by
  intro b hb
  simp only [scRefs, Finset.mem_insert, Finset.mem_singleton] at hb
  rcases hb with rfl | rfl | rfl | rfl | rfl <;>
    exact Finset.mem_filter.mpr ⟨StableHlo.devRef_mem_tcRefs _, by decide⟩

theorem devRef_ne {a b : Ref sig .tc} (h : a ≠ b) : Proc.devRef (τ := τ) .tc a ≠ Proc.devRef .tc b :=
  fun e => h (Proc.devRef_injective _ e)

theorem held_sc (d : Dev nD) (W : Valuation τ sig (Elt F)) :
    (StableHlo.held (d.tc : Thread nD τ) scRefs W : sProp 𝕄)
      = iprop((srcLoc d ↦{fullShare} W (Proc.devRef .tc main_v3)) ∗ (dstLoc d ↦{fullShare} W (Proc.devRef .tc main_v7))
          ∗ (prdLoc d ↦{fullShare} W (Proc.devRef .tc main_v10)) ∗ (zroLoc d ↦{fullShare} W (Proc.devRef .tc main_v11))
          ∗ resLoc d ↦{fullShare} W (Proc.devRef .tc main_v12)) := by
  unfold StableHlo.held scRefs
  repeat rw [SparseCore.bigSep_insert' (by
    simp only [Finset.mem_insert, Finset.mem_singleton, (Proc.devRef_injective (sig := sig) (Proc.tc : Proc τ)).eq_iff]
    decide)]
  rw [bigSep_singleton]

theorem assoc_eq (B C E : sProp 𝕄) : iprop((B ∗ C) ∗ E) = iprop(B ∗ C ∗ E) := equiv_iff.mp ⟨BI.sep_assoc, BI.sep_assoc'⟩

theorem held_before (d : Dev nD) :
    (StableHlo.held (d.tc : Thread nD τ) (Pipeline.ucRefs τ sig) (V1 m d) : sProp 𝕄)
      = iprop(wholes d (args m d) (args m d).o ∗ StableHlo.held (d.tc : Thread nD τ) (Pipeline.ucRefs τ sig \ scRefs) (V1 m d)) := by
  rw [StableHlo.held_sub_split _ scRefs_sub, held_sc]
  refine congrArg (fun x => iprop(x ∗ _)) ?_
  unfold wholes readPts args
  simp only [assoc_eq]

theorem held_after (d : Dev nD) :
    (StableHlo.held (d.tc : Thread nD τ) (Pipeline.ucRefs τ sig) (V2 m d) : sProp 𝕄)
      = iprop(wholes d (args m d) (args m d).res ∗ StableHlo.held (d.tc : Thread nD τ) (Pipeline.ucRefs τ sig \ scRefs) (V1 m d)) := by
  have hr : (StableHlo.held (d.tc : Thread nD τ) (Pipeline.ucRefs τ sig \ scRefs) (V2 m d) : sProp 𝕄)
      = StableHlo.held (d.tc : Thread nD τ) (Pipeline.ucRefs τ sig \ scRefs) (V1 m d) :=
    StableHlo.held_congr _ fun b hb => Function.update_of_ne
      (fun e => (Finset.mem_sdiff.mp hb).2 (by rw [e]; simp [scRefs])) _ _
  rw [StableHlo.held_sub_split _ scRefs_sub, held_sc, hr]
  refine congrArg (fun x => iprop(x ∗ _)) ?_
  unfold wholes readPts V2
  rw [setV_self, setV_ne _ _ _ (show main_v3 ≠ main_v12 by decide), setV_ne _ _ _ (show main_v7 ≠ main_v12 by decide),
    setV_ne _ _ _ (show main_v10 ≠ main_v12 by decide), setV_ne _ _ _ (show main_v11 ≠ main_v12 by decide)]
  simp only [assoc_eq]
  rfl

/-! ## The ghost state at the launch -/

/-- The handshakes' and the finisher pipeline's ghost state at the launch. -/
def u₀ : UU :=
  (initOf (K (F := F)).hsCells (K (F := F)).hsToks,
    (initOf (Pipeline.cells (nD := nD) (τ := τ) (Pipeline.pin (pcfgs (F := F)) adm) cellOf_inj)
      (Pipeline.launchToks (nD := nD) (τ := τ) (Pipeline.pin (pcfgs (F := F)) adm) cellOf_inj), 1))

/-- A device's ghost state of the finisher's pipeline. -/
abbrev G (d : Dev nD) : sProp 𝕄 :=
  iprop(Pipeline.cellsGhost (Pipeline.pin (pcfgs (F := F)) adm) EP 0 d ∗ Pipeline.toksInit (Pipeline.pin (pcfgs (F := F)) adm) EP 0 d)

theorem own_EP (a : UR sig nD τ) (b : Counters) :
    (BI.own ((embR : Emb (UR sig nD τ × Counters) 𝕄) (a, b)) : sProp 𝕄) ⊢ iprop(BI.own (EP (F := F) a) ∗ True) :=
  (own_pair_emb embR a b).trans (sep_mono_right Laws.true_intro)

theorem bigSep_nothing {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P (args m)).x q thr) := by
  unfold u₀
  iintro Hu
  ihave H := (ownU_pair (initOf (K (F := F)).hsCells (K (F := F)).hsToks) _) $$ Hu
  icases H with ⟨HH, HR⟩
  ihave H := (own_EP _ (1 : Counters)) $$ HR
  icases H with ⟨HP, -⟩
  imod (Pipeline.fund_ghost (Pipeline.pin (pcfgs (F := F)) adm) EP cellOf_inj) $$ HP with ⟨Hc, Ht⟩
  imodintro
  isplitl [HH]; · iexact HH
  isplitl [Hc Ht]
  · rw [bigSep_sep', show (Pipeline.cellsGhost (Pipeline.pin (pcfgs (F := F)) adm) EP 0 : Dev nD → sProp 𝕄)
        = fun d => bigSep Finset.univ fun p => Pipeline.cellsGhost (Pipeline.pin (pcfgs (F := F)) adm) EP p d
        from funext fun d => (bigSep_univ_of_subsingleton (Φ := fun p => Pipeline.cellsGhost (Pipeline.pin (pcfgs (F := F)) adm) EP p d) (0 : Fin 1)).symm,
      show (Pipeline.toksInit (Pipeline.pin (pcfgs (F := F)) adm) EP 0 : Dev nD → sProp 𝕄)
        = fun d => bigSep Finset.univ fun p => Pipeline.toksInit (Pipeline.pin (pcfgs (F := F)) adm) EP p d
        from funext fun d => (bigSep_univ_of_subsingleton (Φ := fun p => Pipeline.toksInit (Pipeline.pin (pcfgs (F := F)) adm) EP p d) (0 : Fin 1)).symm]
    isplitl [Hc] <;> iassumption
  rw [show (bigSep Finset.univ fun thr : Thread nD τ => bigSep Finset.univ fun q : Fin 1 => (P (F := F) (args m)).x q thr)
      = bigSep Finset.univ fun _ => iprop(emp) from bigSep_congr fun _ _ => bigSep_univ_of_subsingleton (0 : Fin 1), bigSep_nothing]
  iempintro

/-! ## @main on the TensorCore -/

/-- What @main ends with: every array of its own at its last contents. -/
abbrev FIN (d : Dev nD) : sProp 𝕄 := StableHlo.held (d.tc : Thread nD τ) (Pipeline.ucRefs τ sig) (V4 m d)

/-- What @main's thread owes past the SparseCore call: nothing, its recorded waits within the handshakes' levels. -/
abbrev owesDone (d : Dev nD) : sProp 𝕄 :=
  iprop(∃ W, ⌜(K (F := F)).WBelow (SparseCore.T d) W 8⌝ ∗ owes (SparseCore.T d) (0 : CellTallies nD τ sig (HIx 1)) W)

/-- What the thread owes, out of its state past the call and back. -/
theorem tcSt_open (d : Dev nD) : ((K (F := F)).tcSt EH d ((0 : Fin 1).val + 1) : sProp 𝕄) ⊢ iprop(owesDone d ∗ (owesDone d -∗ (K (F := F)).tcSt EH d 1)) := by
  rw [show (0 : Fin 1).val + 1 = 1 from rfl]
  unfold SparseCore.Cfg.tcSt
  rw [(K (F := F)).Otc_end d (n := 1) le_rfl, show 8 * SparseCore.Cfg.Blocks.fst 1 1 1 = 8 from rfl]
  iintro ⟨HO, Hr⟩
  isplitl [HO]; · iexact HO
  iintro HO
  isplitl [HO] <;> iassumption

theorem region_pre (d : Dev nD) :
    iprop(StableHlo.held (d.tc : Thread nD τ) (Pipeline.ucRefs τ sig) (V3 m d) ∗ owesDone d)
      ⊢ (reg (V3 m) (fun _ => iprop(emp))).pre d := by
  show _ ⊢ iprop(StableHlo.held (d.tc : Thread nD τ) (Pipeline.ucRefs τ sig) (V3 m d) ∗ emp ∗ owesDone d)
  iintro ⟨Hh, HO⟩
  isplitl [Hh]; · iexact Hh
  isplitr; · iempintro
  iexact HO

theorem region_post (d : Dev nD) :
    (reg (V3 m) (fun _ => iprop(emp))).post d
      ⊢ iprop(StableHlo.held (d.tc : Thread nD τ) (Pipeline.ucRefs τ sig) (Sum.outV (V3 m) d) ∗ owesDone d) := by
  show iprop(StableHlo.held (d.tc : Thread nD τ) (Pipeline.ucRefs τ sig) (Sum.outV (V3 m) d) ∗ emp ∗ owesDone d) ⊢ _
  iintro ⟨Hh, -, HO⟩
  isplitl [Hh] <;> iassumption

-- the region's record names the launch's configuration through the pinned family, which unification has to unfold
set_option backward.isDefEq.respectTransparency.types false in
theorem hmain [∀ e, Nonempty (Elt F e)] (κ : GSem nD τ sig → ℕ) (d : Dev nD) :
    iprop((K (F := F)).ctx EH (P (args m)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d fun b => m ((SparseCore.T d).loc b) : sProp 𝕄)
      = StableHlo.held (d.tc : Thread nD τ) (Pipeline.ucRefs τ sig) (V0 m d)
      from Pipeline.unscopedBufs_held (Ix := HIx 1) (Name := ℕ) (U := UU) (Lvl := ℕ) d (V0 m d), main_eq]
  iintro ⟨#Hctx, Hst, ⟨Hb, Hh, Hts, -⟩, HG⟩
  iapply (StableHlo.wp_seq 𝒱 none Set.univ d (Pipeline.ucRefs τ sig) _ preOps
    (fun op h => ops_sub op (List.mem_append_left _ h)) (fun op h => ops_fresh op (List.mem_append_left _ h)) (V0 m d)) $$ [Hb Hh]
  · isplitl [Hb] <;> iassumption
  iintro ⟨Hb, Hh⟩
  ihave Hh := (show (StableHlo.held (d.tc : Thread nD τ) (Pipeline.ucRefs τ sig) (StableHlo.after preOps (V0 m d)) : sProp 𝕄) ⊢ _ from
    Entails.of_eq (held_before m d)) $$ Hh
  icases Hh with ⟨Hw, Hrest⟩
  iapply (Entails.of_eq (wp_bind _ _ _ _ _ _).symm)
  iapply ((K (F := F)).wp_run (D (F := F)) 𝒱 (EH := EH) (P := P (args m)) κ d 0) $$ [Hst Hw Hrest Hb Hts HG]
  isplitr; · iexact Hctx
  isplitl [Hst]; · iexact Hst
  isplitl [Hw]; · rw [st_eq]; iexact Hw
  iintro ⟨Hst, Hdn⟩
  ihave Hw := (Entails.of_eq (dn_eq (args m) d)) $$ Hdn
  ihave Hh := (Entails.of_eq (held_after m d).symm) $$ [Hw Hrest]
  · isplitl [Hw] <;> iassumption
  iapply (StableHlo.wp_seq 𝒱 none Set.univ d (Pipeline.ucRefs τ sig) _ midOps
    (fun op h => ops_sub op (List.mem_append_right _ (List.mem_append_left _ h)))
    (fun op h => ops_fresh op (List.mem_append_right _ (List.mem_append_left _ h))) (V2 m d)) $$ [Hb Hh]
  · isplitl [Hb] <;> iassumption
  iintro ⟨Hb, Hh⟩
  iapply (Entails.of_eq (wp_bind _ _ _ _ _ _).symm)
  ihave Hst := (tcSt_open d) $$ Hst
  icases Hst with ⟨HO, Hst⟩
  icases HG with ⟨Hcells, Htoks⟩
  ihave Hlev := ((K (F := F)).ctx_levAts κ) $$ Hctx
  iapply ((K (F := F)).wp_liftProg (D (F := F)) 𝒱 (SparseCore.T d) Set.univ none (Prog.op (.customCall (Pipeline.entry (0 : Fin 1)) ()) Prog.ret) _)
  iapply ((reg (V3 m) (fun _ => iprop(emp))).wp (pcfgs (F := F)) adm _ (none : HIx 1) cellOf_inj EP defs₀ 𝒱₀ (K (F := F)).L (K (F := F)).lev d none
    (fun _ h => nomatch h) Prog.ret _)
  isplitr [Hb Hh HO Hcells Htoks Hlev]
  · iintro ⟨Hb, Hp⟩
    ihave Hp := (region_post m d) $$ Hp
    icases Hp with ⟨Hh, HO⟩
    rw [wp_ret]
    imodintro
    iapply (StableHlo.wp_seq 𝒱 none Set.univ d (Pipeline.ucRefs τ sig) _ postOps
      (fun op h => ops_sub op (List.mem_append_right _ (List.mem_append_right _ h)))
      (fun op h => ops_fresh op (List.mem_append_right _ (List.mem_append_right _ h))) (Sum.outV (V3 m) d)) $$ [Hb Hh]
    · isplitl [Hb] <;> iassumption
    iintro ⟨Hb, Hh⟩
    rw [wp_pure]
    imodintro
    isplitl [HO Hst]
    · iapply Hst; iexact HO
    isplitl [Hh]; · iexact Hh
    isplitl [Hb] <;> iassumption
  isplitl [Hb]; · iexact Hb
  isplitl [Hh HO]
  · iapply (region_pre m d)
    isplitl [Hh]; · iexact Hh
    iexact HO
  isplitl [Hlev]; · iexact Hlev
  isplitl [Hcells]; · iexact Hcells
  iexact Htoks

/-! ## The run -/

/-- A final state's arrays on a device. -/
def fq (d : Dev nD) (s' : Phys nD τ sig (Elt F)) : Prop := ∀ b : Ref sig .tc, b.isScoped = false →
  s'.mem.mem ((d.tc : Thread nD τ).loc b) = V4 m d (Proc.devRef .tc b)

theorem hfin (d : Dev nD) (s' : Phys nD τ sig (Elt F)) : iprop(FIN m d ∗ SI s') ⊢ (⌜fq m d s'⌝ : sProp 𝕄) := by
  have one : ∀ x : {b : Ref sig .tc // b.isScoped = false}, iprop(FIN m d ∗ SI s')
      ⊢ (⌜s'.mem.mem ((d.tc : Thread nD τ).loc x.1) = V4 m d (Proc.devRef .tc x.1)⌝ : sProp 𝕄) := fun x => by
    have hx : Proc.devRef (τ := τ) .tc x.1 ∈ Pipeline.ucRefs τ sig := Finset.mem_filter.mpr ⟨StableHlo.devRef_mem_tcRefs _, by
      rw [show (Proc.devRef (τ := τ) .tc x.1).isScoped = x.1.isScoped from rfl, x.2]; decide⟩
    have hag := SI_pointsTo_agree (st := s') (ℓ := (d.tc : Thread nD τ).loc x.1) (I := Finset.univ) (q := fullShare)
      (f := V4 m d (Proc.devRef .tc x.1)) (Ix := HIx 1) (Name := ℕ) (U := UU) (Lvl := ℕ)
    have hel : (FIN m d : sProp 𝕄) ⊢ ((d.tc : Thread nD τ).loc x.1 ↦{fullShare} V4 m d (Proc.devRef .tc x.1)) :=
      bigSep_elim (Φ := fun b : DevRef τ sig => ((d, b) : Loc nD τ sig) ↦{fullShare} V4 m d b) hx
    iintro ⟨Hf, HSI⟩
    ihave Hf := hel $$ Hf
    ihave H := hag $$ [HSI Hf]
    · isplitl [HSI] <;> iassumption
    icases H with %h
    ipureintro; exact funext fun i => h i (Finset.mem_univ i)
  exact ((Laws.forall_intro one).trans Laws.pure_forall.2).trans (Laws.pure_mono fun h b hb => h ⟨b, hb⟩)

/-- What the run ends with: @main's arrays at their last contents, and every semaphore at zero. -/
def QC : PUnit × MemSt nD τ sig (Elt F) → Prop := fun r =>
  (∀ (d : Dev nD) (b : Ref sig .tc), b.isScoped = false → r.2.mem ((d.tc : Thread nD τ).loc b) = V4 m d (Proc.devRef .tc b)) ∧ r.2.sem = fun _ => 0

theorem run_main [∀ e, Nonempty (Elt F e)] (hA : ∀ d, (args m d).OK) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (args m)) (A := ∅) facts v₀
    (fun q hq => match q with | 0 => nomatch hq)
    (fun q _ => match q with | 0 => tileObl (args m) hA)
    (fun q _ => match q with | 0 => SparseCore.Cfg.VecSplit.of_plain (vecSplit (args m)))
    m ρ main (fun d => G d) (FIN m) (u₀ (F := F)) (sep_elim_left.trans (hu₀ m)) (hmain m ρ) (fq m) (hfin m) (QC m) (fun _ h hz => ⟨h, hz⟩)

end Cert.Proof.Seg

end
-- ==== Proof.Frames.lean ====
/-
  The run under the precondition: in range, the edge lists are what the SparseCore task asks for; the arguments end unchanged.
-/
module

public import proofs.«01_k».proof.Proof.Run
public import proofs.«01_k».proof.Proof.Gen.Pre_in_range
public import proofs.«01_k».proof.Defs
public import Idealize.ShloMosaic.Lib.ReduceAll
public import Idealize.ShloMosaic.Lib.Pointwise

@[expose] public section

noncomputable section

namespace Cert.Proof.Seg

open Cert.KernelIdeal Cert.KernelIdeal.Gen
open Cert.Proof.Seg.Sum

open Idealize.ShloMosaic
open Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic

variable {F : FTy → Type} [FloatOps F] [Named F]

local notation "𝕄" => MT nD τ sig (HIx 1) (Elt F) ℕ UU ℕ

variable (m : (ℓ : Loc nD τ sig) → Buf (Elt F) ℓ) (ρ : Dev nD → PrngReg)

/-! ## What the precondition says -/

theorem ok_of_pre (a0 a1 : FVec F S1600000x4 .f32) (a2 : FVec F S1600000 .f32) (a3 : FVec F S50000x128 .f32) (x : IVec S2x1600000 32)
    (e : Cert.Pre_in_range.fn (F := F) a0 a1 a2 a3 x = fun _ => 1#1) (i : S2x1600000.Idx) : (x i).toNat < 50000 := by
  have e := congrFun e ValueIdx.ix0
  dsimp only [Cert.Pre_in_range.fn] at e
  obtain ⟨h0, h1⟩ := IntOp.andi_eq_one.mp e
  have h0 := Host.reduce_andi_all _ _ _ _ _ h0 i
  have h1 := Host.reduce_andi_all _ _ _ _ _ h1 i
  pointwise at h0 h1
  have h0 := IntOp.cmpi_sge.mp h0
  have h1 := IntOp.cmpi_slt.mp h1
  rw [show (0#32 : BitVec 32).toInt = 0 from rfl, BitVec.toInt_eq_toNat_cond] at h0
  rw [show (50000#32 : BitVec 32).toInt = 50000 from rfl, BitVec.toInt_eq_toNat_cond] at h1
  split at h0 <;> split at h1 <;> omega

/-! ## The edge lists -/

theorem src_eq (d : Dev nD) : (args m d).fs = concatenate S1605632 0
    [⟨S1600000, shapeCast _ (extractStridedSlice S1x1600000 ![0, 0] (m ((d.tc : Thread nD τ).loc main_arg4)) slices_S2x1600000_S1x1600000_0_0) shapeCasts_S1x1600000_S1600000⟩,
      ⟨S5632, broadcastInDim S5632 ![] bcast_S_S5632 (constantI S_ 32 0#32)⟩] concatenates_S1600000_S5632_S1605632_d0 := by
  show StableHlo.after preOps (V0 m d) (Proc.devRef .tc main_v3) = _
  unfold preOps
  after_results_simp <;> rfl

theorem dst_eq (d : Dev nD) : (args m d).fd = concatenate S1605632 0
    [⟨S1600000, shapeCast _ (extractStridedSlice S1x1600000 ![1, 0] (m ((d.tc : Thread nD τ).loc main_arg4)) slices_S2x1600000_S1x1600000_1_0) shapeCasts_S1x1600000_S1600000⟩,
      ⟨S5632, broadcastInDim S5632 ![] bcast_S_S5632 (constantI S_ 32 0#32)⟩] concatenates_S1600000_S5632_S1605632_d0 := by
  show StableHlo.after preOps (V0 m d) (Proc.devRef .tc main_v7) = _
  unfold preOps
  after_results_simp <;> rfl

theorem src_apply (d : Dev nD) (i : S1605632.Idx) : (args m d).fs i = if h : (i 0).val < 1600000 then m ((d.tc : Thread nD τ).loc main_arg4) (ValueIdx.ix2 0 ⟨(i 0).val, h⟩) else 0#32 := by
  rw [src_eq]
  pointwise
  rfl

theorem dst_apply (d : Dev nD) (i : S1605632.Idx) : (args m d).fd i = if h : (i 0).val < 1600000 then m ((d.tc : Thread nD τ).loc main_arg4) (ValueIdx.ix2 1 ⟨(i 0).val, h⟩) else 0#32 := by
  rw [dst_eq]
  pointwise
  rfl

/-- Indices in range stay so when the lists are padded. -/
theorem args_ok (d : Dev nD) (hx : ∀ i : S2x1600000.Idx, (m ((d.tc : Thread nD τ).loc main_arg4) i : BitVec 32).toNat < 50000) : (args m d).OK where
  src i := by
    rw [src_apply]
    split
    · exact (hx _).trans (by norm_num)
    · exact Nat.zero_lt_succ _
  dst i := by
    rw [dst_apply]
    split
    · exact (hx _).trans (by norm_num)
    · exact Nat.zero_lt_succ _

/-! ## The arguments at the end -/

/-- What the host operations and the two kernels write. -/
def written : List (Ref sig .tc) := [main_v0, main_v1, main_c, main_v2, main_v3, main_v4, main_v5, main_c_0, main_v6, main_v7, main_v8,
  main_cst, main_v9, main_v10, main_cst_1, main_v11, main_v12, main_v13, main_v14, main_cst_2, main_v15, main_v16, main_v17, main_v18,
  main_v19, main_v20, main_v21, main_v22, main_v23, main_v24, main_v25, main_v26, main_v27, main_v28, main_v29, main_v30, main_v31,
  main_v32, main_v33, main_v34, main_v35]

/-- An array nothing writes ends as it began. -/
theorem kept (d : Dev nD) (b : Ref sig .tc) (hb : b ∉ written) : V4 m d (Proc.devRef .tc b) = m ((d.tc : Thread nD τ).loc b) := by
  have hn : ∀ r ∈ written, b ≠ r := fun r hr e => hb (e ▸ hr)
  show StableHlo.after postOps (Sum.outV (V3 m) d) (Proc.devRef .tc b) = _
  rw [StableHlo.after_of_writes_sub (W := [main_v35]) _ _ (StableHlo.forall_writes_sub_of_map rfl) fun h => hb (List.mem_of_mem_drop (i := 40) h)]
  show setV (V3 m d) main_v34 _ (Proc.devRef .tc b) = _
  rw [setV_ne _ _ _ (hn _ (by simp [written]))]
  show StableHlo.after midOps (V2 m d) (Proc.devRef .tc b) = _
  rw [StableHlo.after_of_writes_sub (W := (written.drop 17).take 22) _ _ (StableHlo.forall_writes_sub_of_map rfl)
    fun h => hb (List.mem_of_mem_drop (List.mem_of_mem_take h))]
  show setV (V1 m d) main_v12 _ (Proc.devRef .tc b) = _
  rw [setV_ne _ _ _ (hn _ (by simp [written]))]
  show StableHlo.after preOps (V0 m d) (Proc.devRef .tc b) = _
  rw [StableHlo.after_of_writes_sub (W := written.take 16) _ _ (StableHlo.forall_writes_sub_of_map rfl) fun h => hb (List.mem_of_mem_take h)]
  rfl

/-! ## The frames -/

theorem run_frame [∀ e, Nonempty (Elt F e)]
    (hx : ∀ (d : Dev nD) (i : S2x1600000.Idx), (m ((d.tc : Thread nD τ).loc main_arg4) i : BitVec 32).toNat < 50000) :
    θ_run (Cert.KernelIdeal.defs (F := F)) (Cert.KernelIdeal.threads (F := F)) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)) ∧ r.2.sem = fun _ => 0 :=
  (θ_run Cert.KernelIdeal.defs _ _).mono
    (fun _ h => ⟨fun c => ⟨(h.1 c main_arg0 rfl).trans (kept m c _ (by decide)), (h.1 c main_arg1 rfl).trans (kept m c _ (by decide)),
      (h.1 c main_arg2 rfl).trans (kept m c _ (by decide)), (h.1 c main_arg3 rfl).trans (kept m c _ (by decide)),
      (h.1 c main_arg4 rfl).trans (kept m c _ (by decide))⟩, h.2⟩)
    (run_main m ρ fun d => args_ok m d (hx d))

theorem frame_kernelIdeal : Cert.quiescent_KernelIdeal := fun m ρ hp =>
  run_frame (F := Ideal) m ρ fun d => ok_of_pre _ _ _ _ _ (hp d)

end Cert.Proof.Seg

end
-- ==== Proof.Words.lean ====
/-
  The frame of the program at the float words, from the run of its idealization's text.
-/
module

public import proofs.«01_k».proof.Proof.Frames
public import proofs.«01_k».proof.Proof.Gen.Kernel
public import proofs.«01_k».proof.Defs

@[expose] public section

noncomputable section

namespace Cert.Proof.Seg

open Cert.KernelIdeal Cert.KernelIdeal.Gen
open Cert.Proof.Seg.Sum

open Idealize.ShloMosaic
open Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic

variable {F : FTy → Type} [FloatOps F] [Named F]

local notation "𝕄" => MT nD τ sig (HIx 1) (Elt F) ℕ UU ℕ

/-! ## The same run at the float words

The two programs' texts differ in their namespace and in five constants, which one writes as words and the other as names of
those words, so a run of the one at the float words is a run of the other. -/

/-- At the float words a name is the word it names. -/
local instance named_bits : Named Bits := ⟨fun _ _ _ b => b⟩

-- each kernel's body is compared through both programs' whole text
set_option maxHeartbeats 4000000 in
theorem defs₀_eq : Cert.Kernel.defs₀ (F := Bits) = Cert.KernelIdeal.defs₀ (F := Bits) := by
  funext p ℓ a
  rcases p with _ | c | ⟨c, s⟩
  · match ℓ, a with
    | 0, _ => rfl
    | 1, (t, s) => rfl
  · match ℓ, a with
    | 0, _ => rfl
    | 1, _ => rfl
  · match ℓ, a with
    | 0, _ => rfl
    | 1, _ => rfl

-- the two tables are compared label by label through both programs' whole text
set_option maxHeartbeats 4000000 in
theorem defs_eq : Cert.Kernel.defs (F := Bits) = Cert.KernelIdeal.defs (F := Bits) :=
  congrArg (fun D => (Cert.KernelIdeal.sc (F := Bits)).defs (Pipeline.defs Cert.KernelIdeal.pcfgs D)) defs₀_eq

-- the two programs' threads are compared through both programs' whole text
set_option maxHeartbeats 4000000 in
theorem frame_kernel : Cert.quiescent_Kernel := fun m ρ hp => by
  have h := run_frame (F := Bits) m ρ fun d => ok_of_pre _ _ _ _ _ (hp d)
  rw [← defs_eq] at h
  exact h

end Cert.Proof.Seg

end
-- ==== Proof.Sums.lean ====
/-
  The two programs' sums over the extended reals: a constant that is finite and not negative goes through a sum, the
  accumulation of a list is a sum over the list, tiles of a range make the range — and the net inflow of a node as a sum
  over the edges, the form in which both programs' values are stated.
-/
module

public import proofs.«01_k».proof.Proof.Slices
public import Mathlib.Data.EReal.Operations

@[expose] public section

noncomputable section

namespace Cert.Proof.Seg

open Cert.KernelIdeal Cert.KernelIdeal.Gen
open Idealize.ShloMosaic
open Finset

/-! ## Constants and sums -/

theorem coe_mul_sum {ι : Type} (c : ℝ) (hc : 0 ≤ c) (s : Finset ι) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha,
      EReal.left_distrib_of_nonneg_of_ne_top (EReal.coe_nonneg.mpr hc) (EReal.coe_ne_top c), ih]

theorem sum_mul_coe {ι : Type} (c : ℝ) (hc : 0 ≤ c) (s : Finset ι) (f : ι → EReal) :
    (∑ i ∈ s, f i) * (c : EReal) = ∑ i ∈ s, f i * (c : EReal) := by
  rw [mul_comm, coe_mul_sum c hc]
  exact Finset.sum_congr rfl fun _ _ => mul_comm _ _

/-! ## Lists and tiles -/

theorem accum_sum (f : S50048.Idx → Ideal .f32) (idx : ℕ → ℕ) (v : ℕ → Ideal .f32) (n : ℕ) (j : S50048.Idx) :
    (accum (F := Ideal) f idx v n j : EReal) = f j + ∑ k ∈ range n, if (j 0).val = idx k then (v k : EReal) else 0 := by
  induction n with
  | zero => rw [Finset.sum_range_zero, add_zero]; rfl
  | succ n ih =>
    rw [accum_succ, Finset.sum_range_succ, ← add_assoc, ← ih]
    beta_reduce
    split
    · rfl
    · rw [add_zero]

/-- Tiles of `n`, `S` of them, make the range of `n · S`. -/
theorem sum_tiles (n : ℕ) (g : ℕ → EReal) (S : ℕ) : ∑ t ∈ range S, ∑ j ∈ range n, g (n * t + j) = ∑ k ∈ range (n * S), g k := by
  induction S with
  | zero => simp
  | succ S ih => rw [Finset.sum_range_succ, ih, Nat.mul_succ, Finset.sum_range_add]

/-- A range whose terms from `a` on are zero. -/
theorem sum_range_of_zero (g : ℕ → EReal) (a b : ℕ) (hab : a ≤ b) (h : ∀ k, a ≤ k → k < b → g k = 0) :
    ∑ k ∈ range b, g k = ∑ k ∈ range a, g k := by
  obtain ⟨c, rfl⟩ := Nat.exists_eq_add_of_le hab
  rw [Finset.sum_range_add, Finset.sum_eq_zero (s := range c), add_zero]
  exact fun k hk => h _ (Nat.le_add_right _ _) (by have := Finset.mem_range.mp hk; omega)

/-! ## The net inflow -/

/-- What the edges bring to node `n` in layer `l`: the values of the edges whose end `s` is that node. -/
def hits (x : S2x1600000.Idx → BitVec 32) (p : S1600000x4.Idx → EReal) (s : Fin 2) (l : Fin 4) (n : ℕ) : EReal :=
  ∑ e : Fin 1600000, if n = (x (ValueIdx.ix2 s e)).toNat then p (ValueIdx.ix2 e l) else 0

/-- Node `n`'s demand, zero past the nodes. -/
def demand (q : S50000x128.Idx → EReal) (n : ℕ) : EReal := if h : n < 50000 then q (ValueIdx.ix2 ⟨n, h⟩ 0) else 0

/-- How far node `n` is from balance in layer `l`. -/
def imbalance (x : S2x1600000.Idx → BitVec 32) (p : S1600000x4.Idx → EReal) (q : S50000x128.Idx → EReal) (l : Fin 4) (n : ℕ) : EReal :=
  hits x p 0 l n - hits x p 1 l n - demand q n

/-- Layer `l`'s discount. -/
def discount (l : Fin 4) : ℝ := (9 / 10) ^ (4 - l.val)

theorem discount_nonneg (l : Fin 4) : 0 ≤ discount l := pow_nonneg (by norm_num) _

/-- The mean over the nodes of the layers' squared imbalances, discounted. -/
def loss (x : S2x1600000.Idx → BitVec 32) (p : S1600000x4.Idx → EReal) (q : S50000x128.Idx → EReal) : EReal :=
  (∑ n ∈ range 50000, ∑ l : Fin 4, imbalance x p q l n * imbalance x p q l n * (discount l : EReal)) * ((1 / 50000 : ℝ) : EReal)

theorem hits_past (x : S2x1600000.Idx → BitVec 32) (hx : ∀ i, (x i).toNat < 50000) (p : S1600000x4.Idx → EReal) (s : Fin 2) (l : Fin 4)
    (n : ℕ) (hn : 50000 ≤ n) : hits x p s l n = 0 :=
  Finset.sum_eq_zero fun e _ => if_neg fun h => absurd (hx (ValueIdx.ix2 s e)) (by omega)

/-- Past the nodes nothing is out of balance. -/
theorem imbalance_past (x : S2x1600000.Idx → BitVec 32) (hx : ∀ i, (x i).toNat < 50000) (p : S1600000x4.Idx → EReal)
    (q : S50000x128.Idx → EReal) (l : Fin 4) (n : ℕ) (hn : 50000 ≤ n) : imbalance x p q l n = 0 := by
  unfold imbalance demand
  rw [hits_past x hx p 0 l n hn, hits_past x hx p 1 l n hn, dif_neg (by omega), sub_zero, sub_zero]

/-- The loss with the discount and the mean inside the sums, over all of the padded nodes by blocks. -/
theorem loss_blocks (x : S2x1600000.Idx → BitVec 32) (hx : ∀ i, (x i).toNat < 50000) (p : S1600000x4.Idx → EReal)
    (q : S50000x128.Idx → EReal) :
    ∑ t ∈ range 17, (∑ l : Fin 4, (discount l : EReal) * ∑ j ∈ range 2944, imbalance x p q l (2944 * t + j) * imbalance x p q l (2944 * t + j))
        * ((1 / 50000 : ℝ) : EReal) = loss x p q := by
  unfold loss
  rw [← sum_mul_coe _ (by norm_num)]
  refine congrArg (fun y : EReal => y * ((1 / 50000 : ℝ) : EReal)) ?_
  have h : ∀ t ∈ range 17,
      ∑ l : Fin 4, (discount l : EReal) * ∑ j ∈ range 2944, imbalance x p q l (2944 * t + j) * imbalance x p q l (2944 * t + j)
        = ∑ j ∈ range 2944, (fun n => ∑ l : Fin 4, imbalance x p q l n * imbalance x p q l n * (discount l : EReal)) (2944 * t + j) := fun t _ => by
    rw [Finset.sum_comm]
    refine Finset.sum_congr rfl fun l _ => ?_
    rw [coe_mul_sum _ (discount_nonneg l)]
    exact Finset.sum_congr rfl fun j _ => mul_comm _ _
  refine (Finset.sum_congr rfl h).trans ((sum_tiles 2944 (fun n => ∑ l : Fin 4, imbalance x p q l n * imbalance x p q l n * (discount l : EReal)) 17).trans ?_)
  refine sum_range_of_zero _ 50000 (2944 * 17) (by norm_num) fun k hk _ => ?_
  refine Finset.sum_eq_zero fun l _ => ?_
  rw [imbalance_past x hx p q l k hk, zero_mul, zero_mul]

end Cert.Proof.Seg

end
-- ==== Proof.Value.lean ====
/-
  The kernel's value over the extended reals: what the finisher adds up is the loss.
-/
module

public import proofs.«01_k».proof.Proof.Frames
public import proofs.«01_k».proof.Proof.Sums
public import Idealize.ShloMosaic.Lib.Pointwise
public import Idealize.ShloMosaic.Lib.Pipeline.ValueKit.Geometry

@[expose] public section

noncomputable section

namespace Cert.Proof.Seg

open Cert.KernelIdeal Cert.KernelIdeal.Gen
open Cert.Proof.Seg.Sum
open Idealize.ShloMosaic
open Idealize.ShloMosaic.TcCoe
open Finset

/-! ## One block -/

/-- Column `j`'s squared imbalance in a block of partial rows. -/
def sq (s d : S32x2944.Idx → EReal) (dem : S1x2944.Idx → EReal) (j : Fin 2944) : EReal :=
  (∑ w : Fin 32, s (ValueIdx.ix2 w j) - ∑ w : Fin 32, d (ValueIdx.ix2 w j) - dem (ValueIdx.ix2 0 j))
    * (∑ w : Fin 32, s (ValueIdx.ix2 w j) - ∑ w : Fin 32, d (ValueIdx.ix2 w j) - dem (ValueIdx.ix2 0 j))

theorem part_ideal (s0 d0 s1 d1 s2 d2 s3 d3 : S32x2944.Idx → EReal) (dem : S1x2944.Idx → EReal) :
    (part (F := Ideal) s0 d0 s1 d1 s2 d2 s3 d3 dem : EReal)
      = ((6561 / 10000 : ℝ) : EReal) * ∑ j : Fin 2944, sq s0 d0 dem j + ((729 / 1000 : ℝ) : EReal) * ∑ j : Fin 2944, sq s1 d1 dem j
        + ((81 / 100 : ℝ) : EReal) * ∑ j : Fin 2944, sq s2 d2 dem j + ((9 / 10 : ℝ) : EReal) * ∑ j : Fin 2944, sq s3 d3 dem j := by
  pointwise [part, k1_pay2, k1_pay3]
  rw [IdealRules.named_const.ideal_named_scalar κ "d4" (φ := .f32) 1059583531#32 _ rfl,
    IdealRules.named_const.ideal_named_scalar κ "d3" (φ := .f32) 1060806590#32 _ rfl,
    IdealRules.named_const.ideal_named_scalar κ "d2" (φ := .f32) 1062165545#32 _ rfl,
    IdealRules.named_const.ideal_named_scalar κ "d1" (φ := .f32) 1063675494#32 _ rfl]
  simp only [Finset.sum_const, Finset.card_univ, Fintype.card_fin, one_smul]
  rfl

theorem step_ideal (x p : EReal) : (Sum.step (F := Ideal) x p : EReal) = x + p * ((1 / 50000 : ℝ) : EReal) := by
  pointwise [Sum.step, k1_pay1]
  rw [IdealRules.named_const.ideal_named_scalar κ "inv_n" (φ := .f32) _ _ rfl]

/-! ## The blocks of the arrays -/

variable (Wv : (c : Dev nD) → (b : Ref sig .tc) → Buf (Elt Ideal) ((c.tc : Thread nD τ).loc b))

/-- Column `j` of block `t`, among all columns. -/
def col (t j : ℕ) : Fin 50048 := ⟨(2944 * t + j) % 50048, Nat.mod_lt _ (by norm_num)⟩

theorem blk_index : ∀ t : Fin cfg1.N, cc1_transform_0 (grid1.coords t) = ![0, t.val] := by decide +kernel

theorem rows_emb (t : Fin cfg1.N) (w : Fin 32) (j : Fin 2944) :
    ((cfg1.win 0).blk t).view.emb (ValueIdx.ix2 w j) = ValueIdx.ix2 w (col t.val j.val) := by
  have hi : win1_0.index t = ![0, t.val] := blk_index t
  have ht : t.val < 17 := t.isLt
  have hj : j.val < 2944 := j.isLt
  refine funext fun a => Fin.ext ?_
  blk_simp [hi]
  revert a
  refine Fin.forall_fin_two.mpr ⟨?_, ?_⟩
  · show 0 * 32 + w.val = w.val
    omega
  · show t.val * 2944 + j.val = (2944 * t.val + j.val) % 50048
    omega

theorem dem_emb (t : Fin cfg1.N) (j : Fin 2944) :
    ((cfg1.win 8).blk t).view.emb (ValueIdx.ix2 0 j) = ValueIdx.ix2 0 (col t.val j.val) := by
  have hi : win1_8.index t = ![0, t.val] := blk_index t
  have ht : t.val < 17 := t.isLt
  have hj : j.val < 2944 := j.isLt
  refine funext fun a => Fin.ext ?_
  blk_simp [hi]
  revert a
  refine Fin.forall_fin_two.mpr ⟨?_, ?_⟩
  · show 0 * 1 + 0 = 0
    omega
  · show t.val * 2944 + j.val = (2944 * t.val + j.val) % 50048
    omega

/-- Column `n`'s squared imbalance in whole arrays of partial rows. -/
def sqAll (s d : S32x50048.Idx → EReal) (dem : S1x50048.Idx → EReal) (n : Fin 50048) : EReal :=
  (∑ w : Fin 32, s (ValueIdx.ix2 w n) - ∑ w : Fin 32, d (ValueIdx.ix2 w n) - dem (ValueIdx.ix2 0 n))
    * (∑ w : Fin 32, s (ValueIdx.ix2 w n) - ∑ w : Fin 32, d (ValueIdx.ix2 w n) - dem (ValueIdx.ix2 0 n))

theorem sq_rows (s d : S32x50048.Idx → EReal) (dem : S1x50048.Idx → EReal) (t : Fin cfg1.N) (j : Fin 2944) :
    sq (fun y => s (((cfg1.win 0).blk t).view.emb y)) (fun y => d (((cfg1.win 0).blk t).view.emb y))
      (fun y => dem (((cfg1.win 8).blk t).view.emb y)) j = sqAll s d dem (col t.val j.val) := by
  have h : ∀ f : S32x50048.Idx → EReal, ∑ w : Fin 32, f (((cfg1.win 0).blk t).view.emb (ValueIdx.ix2 w j))
      = ∑ w : Fin 32, f (ValueIdx.ix2 w (col t.val j.val)) := fun f => Finset.sum_congr rfl fun w _ => congrArg f (rows_emb t w j)
  unfold sq sqAll
  beta_reduce
  rw [dem_emb, h s, h d]

theorem partAt_ideal (c : Dev nD) (t : Fin cfg1.N) :
    (partAt Wv c t : EReal)
      = ((6561 / 10000 : ℝ) : EReal) * ∑ j : Fin 2944, sqAll (Wv c main_v19) (Wv c main_v21) (Wv c main_v17) (col t.val j.val)
        + ((729 / 1000 : ℝ) : EReal) * ∑ j : Fin 2944, sqAll (Wv c main_v23) (Wv c main_v25) (Wv c main_v17) (col t.val j.val)
        + ((81 / 100 : ℝ) : EReal) * ∑ j : Fin 2944, sqAll (Wv c main_v27) (Wv c main_v29) (Wv c main_v17) (col t.val j.val)
        + ((9 / 10 : ℝ) : EReal) * ∑ j : Fin 2944, sqAll (Wv c main_v31) (Wv c main_v33) (Wv c main_v17) (col t.val j.val) := by
  simp only [← sq_rows]
  exact part_ideal _ _ _ _ _ _ _ _ _

/-- The output after `n` points: the points' sums, each a share of the mean. -/
theorem accAt_ideal (c : Dev nD) (n : ℕ) :
    (Sum.accAt Wv c n : EReal) = ∑ t ∈ range n, (partAt Wv c (gpt t) : EReal) * ((1 / 50000 : ℝ) : EReal) := by
  induction n with
  | zero => exact Ideal.ofBits_zero_f32
  | succ n ih => rw [Finset.sum_range_succ, ← ih]; exact step_ideal _ _

/-! ## The arrays the finisher reads -/

variable (m : (ℓ : Loc nD τ sig) → Buf (Elt Ideal) ℓ)

theorem dem_eq (d : Dev nD) : V3 m d (Proc.devRef .tc main_v17) = shapeCast S1x50048 (concatenate S50048 0
    [⟨S50000, shapeCast S50000 (extractStridedSlice S50000x1 ![0, 0] (m ((d.tc : Thread nD τ).loc main_arg3)) slices_S50000x128_S50000x1_0_0) shapeCasts_S50000x1_S50000⟩,
      ⟨S48, broadcastInDim S48 ![] bcast_S_S48 (constant (F := Ideal) S_ .f32 0x00000000#32)⟩] concatenates_S50000_S48_S50048_d0) shapeCasts_S50048_S1x50048 := by
  have e : V2 m d (Proc.devRef .tc main_arg3) = m ((d.tc : Thread nD τ).loc main_arg3) := by
    show setV (V1 m d) main_v12 _ (Proc.devRef .tc main_arg3) = _
    rw [setV_ne _ _ _ (by decide)]
    show StableHlo.after preOps (V0 m d) (Proc.devRef .tc main_arg3) = _
    rw [StableHlo.after_of_writes_sub (W := written.take 16) _ _ (StableHlo.forall_writes_sub_of_map rfl) (by decide)]
    rfl
  rw [← e]
  show StableHlo.after midOps (V2 m d) (Proc.devRef .tc main_v17) = _
  unfold midOps
  after_results_simp <;> rfl

theorem dem_apply (d : Dev nD) (n : Fin 50048) :
    (V3 m d (Proc.devRef .tc main_v17) (ValueIdx.ix2 0 n) : EReal) = demand (m ((d.tc : Thread nD τ).loc main_arg3)) n.val := by
  rw [dem_eq]
  pointwise [demand]
  rfl

/-- The partial rows of layer `l` at end `s`, one per worker. -/
def rowsOf (f : S4x2x32x50048.Idx → EReal) (l : Fin 4) (s : Fin 2) : S32x50048.Idx → EReal := fun i => f (ValueIdx.ix4 l s (i 0) (i 1))

theorem rows_slice (f : S4x2x32x50048.Idx → EReal) (l : Fin 4) (s : Fin 2) (h : S4x2x32x50048.Slices ![l.val, s.val, 0, 0] S1x1x32x50048) :
    shapeCast S32x50048 (extractStridedSlice S1x1x32x50048 ![l.val, s.val, 0, 0] f h) shapeCasts_S1x1x32x50048_S32x50048 = rowsOf f l s := by
  funext i
  pointwise [rowsOf]
  rfl

theorem rows_eq (d : Dev nD) :
    V3 m d (Proc.devRef .tc main_v19) = rowsOf (args m d).res 0 0 ∧ V3 m d (Proc.devRef .tc main_v21) = rowsOf (args m d).res 0 1
    ∧ V3 m d (Proc.devRef .tc main_v23) = rowsOf (args m d).res 1 0 ∧ V3 m d (Proc.devRef .tc main_v25) = rowsOf (args m d).res 1 1
    ∧ V3 m d (Proc.devRef .tc main_v27) = rowsOf (args m d).res 2 0 ∧ V3 m d (Proc.devRef .tc main_v29) = rowsOf (args m d).res 2 1
    ∧ V3 m d (Proc.devRef .tc main_v31) = rowsOf (args m d).res 3 0 ∧ V3 m d (Proc.devRef .tc main_v33) = rowsOf (args m d).res 3 1 := by
  rw [← (setV_self (V1 m d) main_v12 (args m d).res)]
  refine ⟨?_, ?_, ?_, ?_, ?_, ?_, ?_, ?_⟩ <;> show StableHlo.after midOps (V2 m d) _ = _ <;> unfold midOps <;> after_results_simp
  exacts [rows_slice _ 0 0 _, rows_slice _ 0 1 _, rows_slice _ 1 0 _, rows_slice _ 1 1 _, rows_slice _ 2 0 _, rows_slice _ 2 1 _,
    rows_slice _ 3 0 _, rows_slice _ 3 1 _]

theorem val_eq (d : Dev nD) : (args m d).fp = concatenate S4x1605632 1
    [⟨S4x1600000, transpose S4x1600000 [1, 0] (m ((d.tc : Thread nD τ).loc main_arg0)) transposes_S1600000x4_S4x1600000_1_0⟩,
      ⟨S4x5632, broadcastInDim S4x5632 ![] bcast_S_S4x5632 (constant (F := Ideal) S_ .f32 0x00000000#32)⟩] concatenates_S4x1600000_S4x5632_S4x1605632_d1 := by
  show StableHlo.after preOps (V0 m d) (Proc.devRef .tc main_v10) = _
  unfold preOps
  after_results_simp <;> rfl

theorem val_apply (d : Dev nD) (l : Fin 4) (k : Fin 1605632) : ((args m d).fp (ValueIdx.ix2 l k) : EReal)
    = if h : k.val < 1600000 then m ((d.tc : Thread nD τ).loc main_arg0) (ValueIdx.ix2 ⟨k.val, h⟩ l) else (0 : EReal) := by
  rw [val_eq]
  pointwise
  rfl

theorem zero_apply (d : Dev nD) (i : S50048.Idx) : ((args m d).z i : EReal) = 0 := by
  have e : (args m d).z = broadcastInDim S50048 ![] bcast_S_S50048 (constant (F := Ideal) S_ .f32 0x00000000#32) := by
    show StableHlo.after preOps (V0 m d) (Proc.devRef .tc main_v11) = _
    unfold preOps
    after_results_simp <;> rfl
  rw [e]
  pointwise

/-! ## The rows added up -/

theorem ends_apply (d : Dev nD) (s : Fin 2) (i : S1605632.Idx) : (if s.val = 0 then (args m d).fs else (args m d).fd) i
    = if h : (i 0).val < 1600000 then m ((d.tc : Thread nD τ).loc main_arg4) (ValueIdx.ix2 s ⟨(i 0).val, h⟩) else 0#32 := by
  revert s
  exact Fin.forall_fin_two.mpr ⟨src_apply m d i, dst_apply m d i⟩

/-- The workers' partial rows of a node add up to what the edges bring to it. -/
theorem rows_sum (d : Dev nD) (l : Fin 4) (s : Fin 2) (n : Fin 50048) :
    ∑ w : Fin 32, rowsOf (args m d).res l s (ValueIdx.ix2 w n)
      = hits (m ((d.tc : Thread nD τ).loc main_arg4)) (m ((d.tc : Thread nD τ).loc main_arg0)) s l n.val := by
  have hN : ∀ k : ℕ, k % 1605632 < 1605632 := fun k => Nat.mod_lt _ (by norm_num)
  let g : ℕ → EReal := fun k => if n.val = (((if s.val = 0 then (args m d).fs else (args m d).fd) (ValueIdx.ix1 ⟨k % 1605632, hN k⟩)) : BitVec 32).toNat
    then ((args m d).fp (ValueIdx.ix2 l ⟨k % 1605632, hN k⟩) : EReal) else 0
  have hw : ∀ w : Fin 32, rowsOf (args m d).res l s (ValueIdx.ix2 w n) = ∑ k ∈ range 50176, g (50176 * w.val + k) := fun w => by
    refine (accum_sum _ _ _ _ _).trans ?_
    rw [zero_apply, zero_add]
    refine Finset.sum_congr rfl fun k _ => ?_
    have he : edge w.val k = ValueIdx.ix1 ⟨(50176 * w.val + k) % 1605632, hN _⟩ := funext fun a => Fin.ext (by rw [Fin.eq_zero a]; rfl)
    show (if n.val = ((if s.val = 0 then (args m d).fs else (args m d).fd) (edge w.val k)).toNat
      then (args m d).fp (ValueIdx.ix2 l ⟨(50176 * w.val + k) % 1605632, hN _⟩) else 0) = _
    rw [he]
  rw [Finset.sum_congr rfl fun w _ => hw w]
  refine (Finset.sum_range fun w => ∑ k ∈ range 50176, g (50176 * w + k)).symm.trans ((sum_tiles 50176 g 32).trans ?_)
  refine (sum_range_of_zero g 1600000 (50176 * 32) (by norm_num) fun k hk hk' => ?_).trans ?_
  · have hm : k % 1605632 = k := Nat.mod_eq_of_lt (by omega)
    have hv : ((args m d).fp (ValueIdx.ix2 l ⟨k % 1605632, hN k⟩) : EReal) = 0 := by
      rw [val_apply, dif_neg (by show ¬ k % 1605632 < 1600000; omega)]
    show (if _ then _ else _) = _
    rw [hv, ite_self]
  · rw [Finset.sum_range]
    refine Finset.sum_congr rfl fun e _ => ?_
    have hm : e.val % 1605632 = e.val := Nat.mod_eq_of_lt (by omega)
    show (if _ then _ else _) = _
    rw [val_apply, ends_apply, dif_pos (by show e.val % 1605632 < 1600000; omega), dif_pos (by show e.val % 1605632 < 1600000; omega)]
    have he : (⟨e.val % 1605632, by omega⟩ : Fin 1600000) = e := Fin.ext hm
    show (if n.val = (m ((d.tc : Thread nD τ).loc main_arg4) (ValueIdx.ix2 s ⟨e.val % 1605632, _⟩)).toNat then _ else _) = _
    rw [he]

theorem sqAll_eq (d : Dev nD) (l : Fin 4) (n : Fin 50048) :
    sqAll (rowsOf (args m d).res l 0) (rowsOf (args m d).res l 1) (V3 m d (Proc.devRef .tc main_v17)) n
      = imbalance (m ((d.tc : Thread nD τ).loc main_arg4)) (m ((d.tc : Thread nD τ).loc main_arg0)) (m ((d.tc : Thread nD τ).loc main_arg3)) l n.val
        * imbalance (m ((d.tc : Thread nD τ).loc main_arg4)) (m ((d.tc : Thread nD τ).loc main_arg0)) (m ((d.tc : Thread nD τ).loc main_arg3)) l n.val := by
  unfold sqAll imbalance
  rw [rows_sum, rows_sum, dem_apply]

/-- A block's columns in layer `l`. -/
theorem block_sq (d : Dev nD) (l : Fin 4) (t : ℕ) (ht : t < 17) :
    ∑ j : Fin 2944, sqAll (rowsOf (args m d).res l 0) (rowsOf (args m d).res l 1) (V3 m d (Proc.devRef .tc main_v17)) (col t j.val)
      = ∑ j ∈ range 2944,
        imbalance (m ((d.tc : Thread nD τ).loc main_arg4)) (m ((d.tc : Thread nD τ).loc main_arg0)) (m ((d.tc : Thread nD τ).loc main_arg3)) l (2944 * t + j)
        * imbalance (m ((d.tc : Thread nD τ).loc main_arg4)) (m ((d.tc : Thread nD τ).loc main_arg0)) (m ((d.tc : Thread nD τ).loc main_arg3)) l (2944 * t + j) := by
  rw [Finset.sum_range]
  refine Finset.sum_congr rfl fun j _ => ?_
  have hj : j.val < 2944 := j.isLt
  have hc : (col t j.val).val = 2944 * t + j.val := Nat.mod_eq_of_lt (by omega)
  rw [sqAll_eq, hc]

/-! ## The kernel's result -/

theorem total_eq (d : Dev nD) (hx : ∀ i : S2x1600000.Idx, (m ((d.tc : Thread nD τ).loc main_arg4) i : BitVec 32).toNat < 50000) :
    (total (V3 m) d : EReal)
      = loss (m ((d.tc : Thread nD τ).loc main_arg4)) (m ((d.tc : Thread nD τ).loc main_arg0)) (m ((d.tc : Thread nD τ).loc main_arg3)) := by
  rw [← loss_blocks _ hx]
  refine (accAt_ideal _ d 17).trans (Finset.sum_congr rfl fun t ht => ?_)
  have ht : t < 17 := Finset.mem_range.mp ht
  have hg : (gpt t).val = t := Nat.mod_eq_of_lt ht
  refine congrArg (fun y : EReal => y * ((1 / 50000 : ℝ) : EReal)) ?_
  obtain ⟨e0, e1, e2, e3, e4, e5, e6, e7⟩ := rows_eq m d
  rw [partAt_ideal, e0, e1, e2, e3, e4, e5, e6, e7, hg]
  have d0 : (6561 / 10000 : ℝ) = discount 0 := by unfold discount; norm_num
  have d1 : (729 / 1000 : ℝ) = discount 1 := by unfold discount; norm_num
  have d2 : (81 / 100 : ℝ) = discount 2 := by unfold discount; norm_num
  have d3 : (9 / 10 : ℝ) = discount 3 := by unfold discount; norm_num
  rw [d0, d1, d2, d3, Fin.sum_univ_four]
  exact congrArg₂ (· + ·) (congrArg₂ (· + ·) (congrArg₂ (· + ·) (congrArg _ (block_sq m d 0 t ht)) (congrArg _ (block_sq m d 1 t ht)))
    (congrArg _ (block_sq m d 2 t ht))) (congrArg _ (block_sq m d 3 t ht))

theorem value_eq (d : Dev nD) (hx : ∀ i : S2x1600000.Idx, (m ((d.tc : Thread nD τ).loc main_arg4) i : BitVec 32).toNat < 50000) :
    V4 m d (Proc.devRef .tc main_v35) = fun _ : S_.Idx =>
      loss (m ((d.tc : Thread nD τ).loc main_arg4)) (m ((d.tc : Thread nD τ).loc main_arg0)) (m ((d.tc : Thread nD τ).loc main_arg3)) := by
  have e : V4 m d (Proc.devRef .tc main_v35) = shapeCast S_ (Sum.outV (V3 m) d (Proc.devRef .tc main_v34)) shapeCasts_S1x1_S_ := by
    show StableHlo.after postOps (Sum.outV (V3 m) d) _ = _
    unfold postOps
    after_results_simp
    rfl
  rw [e]
  funext i
  rw [← total_eq m d hx]
  show shapeCast S_ (setV (V3 m d) main_v34 (fun _ => total (V3 m) d) (Proc.devRef .tc main_v34)) shapeCasts_S1x1_S_ i = _
  rw [setV_self]
  rfl

end Cert.Proof.Seg

end
-- ==== Proof.Refer.lean ====
/-
  The reference's value over the extended reals: the composed term of its operations is the loss.
-/
module

public import proofs.«01_k».proof.Proof.Sums
public import proofs.«01_k».proof.Proof.Gen.ReferenceIdeal.Run
public import Idealize.ShloMosaic.Lib.IdealHost
public import Idealize.ShloMosaic.Lib.Pointwise

@[expose] public section

noncomputable section

namespace Cert.Proof.Ref

open Cert.ReferenceIdeal Cert.ReferenceIdeal.Gen
open Cert.Proof.Seg (hits demand imbalance discount loss)
open Idealize.ShloMosaic
open Idealize.ShloMosaic.TcCoe
open Idealize.SL.Sem
open Finset

/-! ## The scattered sums -/

abbrev dims : ScatterDims S50000x4 S1600000x1 S1600000x4 := scatter_S50000x4_S1600000x1_S1600000x4_1_0_0_1

theorem start0 (e : Fin 1600000) (l : Fin 4) (idx : IVec S1600000x1 32) :
    dims.start (ValueIdx.ix2 e l) idx 0 = (idx (ValueIdx.ix2 e 0)).toInt := by
  refine (dif_pos (by decide)).trans (congrArg (fun y => (idx y).toInt) (funext fun a => ?_))
  revert a
  refine Fin.forall_fin_two.mpr ⟨?_, ?_⟩
  · rfl
  · rfl

theorem start1 (e : Fin 1600000) (l : Fin 4) (idx : IVec S1600000x1 32) : dims.start (ValueIdx.ix2 e l) idx 1 = 0 := dif_neg (by decide)

theorem window0 (e : Fin 1600000) (l : Fin 4) : dims.window (ValueIdx.ix2 e l) 0 = 0 := dif_neg (by decide)

theorem window1 (e : Fin 1600000) (l : Fin 4) : dims.window (ValueIdx.ix2 e l) 1 = l.val := (dif_pos (by decide)).trans rfl

theorem lands (e : Fin 1600000) (l l' : Fin 4) (n : Fin 50000) (idx : IVec S1600000x1 32) (h : (idx (ValueIdx.ix2 e 0)).toNat < 50000) :
    dims.resultIdx? (ValueIdx.ix2 e l') idx = some (ValueIdx.ix2 n l) ↔ n.val = (idx (ValueIdx.ix2 e 0)).toNat ∧ l' = l := by
  have hi : (idx (ValueIdx.ix2 e 0)).toInt = ((idx (ValueIdx.ix2 e 0)).toNat : ℤ) := by
    rw [BitVec.toInt_eq_toNat_cond, if_pos (by omega)]
  have hl : l'.val < 4 := l'.isLt
  unfold ScatterDims.resultIdx?
  rw [dif_pos (Fin.forall_fin_two.mpr ⟨by rw [start0, window0, hi]; exact ⟨by omega, show _ < (50000 : ℤ) by omega⟩,
    by rw [start1, window1]; exact ⟨by omega, show _ < (4 : ℤ) by omega⟩⟩), Option.some.injEq]
  constructor
  · intro e
    have e0 := congrArg Fin.val (congrFun e 0)
    have e1 := congrArg Fin.val (congrFun e 1)
    dsimp only at e0 e1
    rw [start0, window0, hi] at e0
    rw [start1, window1] at e1
    replace e0 : _ = n.val := e0
    replace e1 : _ = l.val := e1
    exact ⟨by omega, Fin.ext (by omega)⟩
  · rintro ⟨e0, rfl⟩
    refine funext (Fin.forall_fin_two.mpr ⟨Fin.ext ?_, Fin.ext ?_⟩)
    · show (dims.start (ValueIdx.ix2 e l') idx 0 + dims.window (ValueIdx.ix2 e l') 0).toNat = n.val
      rw [start0, window0, hi]
      omega
    · show (dims.start (ValueIdx.ix2 e l') idx 1 + dims.window (ValueIdx.ix2 e l') 1).toNat = l'.val
      rw [start1, window1]
      omega

theorem scatter_apply (z : S50000x4.Idx → EReal) (idx : IVec S1600000x1 32) (p : S1600000x4.Idx → EReal)
    (h : ∀ e, (idx (ValueIdx.ix2 e 0)).toNat < 50000) (n : Fin 50000) (l : Fin 4) :
    (Host.scatterAdd (F := Ideal) (φ := .f32) dims z idx p (ValueIdx.ix2 n l) : EReal)
      = z (ValueIdx.ix2 n l) + ∑ e : Fin 1600000, if n.val = (idx (ValueIdx.ix2 e 0)).toNat then p (ValueIdx.ix2 e l) else 0 := by
  show z _ + ∑ j ∈ univ.filter (fun j => dims.resultIdx? j idx = some (ValueIdx.ix2 n l)), p j = _
  refine congrArg (fun y => z (ValueIdx.ix2 n l) + y) ?_
  rw [Finset.sum_filter, ValueIdx.sum_idx2]
  refine Finset.sum_congr rfl fun e _ => ?_
  simp only [lands e l _ n idx (h e)]
  by_cases hn : n.val = (idx (ValueIdx.ix2 e 0)).toNat
  · simp [hn]
  · simp [hn]

/-- The scattered sums at end `s` of the edges. -/
def scat (x : S2x1600000.Idx → BitVec 32) (p : S1600000x4.Idx → EReal) (s : Fin 2) (h : S2x1600000.Slices ![s.val, 0] S1x1600000) : S50000x4.Idx → EReal :=
  Host.scatterAdd (F := Ideal) (φ := .f32) dims (broadcastInDim S50000x4 ![] bcast_S_S50000x4 (constant (F := Ideal) S_ .f32 0x00000000#32))
    (broadcastInDim S1600000x1 ![0] bcast_S1600000_S1600000x1_0 (shapeCast S1600000 (extractStridedSlice S1x1600000 ![s.val, 0] x h) shapeCasts_S1x1600000_S1600000)) p

theorem scat_apply (x : S2x1600000.Idx → BitVec 32) (hx : ∀ i, (x i).toNat < 50000) (p : S1600000x4.Idx → EReal) (s : Fin 2)
    (h : S2x1600000.Slices ![s.val, 0] S1x1600000) (n : Fin 50000) (l : Fin 4) : scat x p s h (ValueIdx.ix2 n l) = hits x p s l n.val := by
  have hi : ∀ e : Fin 1600000, broadcastInDim S1600000x1 ![0] bcast_S1600000_S1600000x1_0
      (shapeCast S1600000 (extractStridedSlice S1x1600000 ![s.val, 0] x h) shapeCasts_S1x1600000_S1600000) (ValueIdx.ix2 e 0) = x (ValueIdx.ix2 s e) := fun e => by
    pointwise
    rfl
  unfold scat
  rw [scatter_apply _ _ _ fun e => by rw [hi]; exact hx _]
  have hz : (broadcastInDim S50000x4 ![] bcast_S_S50000x4 (constant (F := Ideal) S_ .f32 0x00000000#32) (ValueIdx.ix2 n l) : EReal) = 0 := by pointwise
  exact (congrArg₂ (· + ·) hz (Finset.sum_congr rfl fun e _ => by rw [hi e])).trans (zero_add _)

/-! ## The discounts -/

/-- The discounts as the reference computes them. -/
def powers : S4.Idx → EReal :=
  Host.powf (F := Ideal) (φ := .f32) (Host.divf (mulf (broadcastInDim S4 ![] bcast_S_S4 (constant S_ .f32 0x3F800000#32)) (broadcastInDim S4 ![] bcast_S_S4 (constant S_ .f32 0x41100000#32)))
    (broadcastInDim S4 ![] bcast_S_S4 (constant S_ .f32 0x41200000#32)))
    (Host.reverse [0] (addf (broadcastInDim S4 ![] bcast_S_S4 (constant S_ .f32 0x3F800000#32)) (sitofp .f32 (iotaInDim S4 32 0))))

theorem nine : Ideal.ofBits .f32 0x41100000#32 = ((9 : ℝ) : EReal) := by simp [Ideal.ofBits, Ideal.ieee, -EReal.coe_mul]; norm_num
theorem ten : Ideal.ofBits .f32 0x41200000#32 = ((10 : ℝ) : EReal) := by simp [Ideal.ofBits, Ideal.ieee, -EReal.coe_mul]; norm_num
theorem nodes : Ideal.ofBits .f32 0x47435000#32 = ((50000 : ℝ) : EReal) := by simp [Ideal.ofBits, Ideal.ieee, -EReal.coe_mul]; norm_num

theorem powers_apply (l : Fin 4) : powers (ValueIdx.ix1 l) = ((discount l : ℝ) : EReal) := by
  have hk : ∀ l : Fin 4, (BitVec.ofNat 32 (if (0 : Fin 1) ∈ [(0 : Fin 1)] then Fin.rev l else l).val).toInt = ((3 - l.val : ℕ) : ℤ) := by decide
  have hl : 4 - l.val = 1 + (3 - l.val) := by have := l.isLt; omega
  pointwise [powers]
  rw [nine, ten, Ideal.div_coe (by norm_num)]
  show Ideal.pow (((9 : ℝ) : EReal) * ((1 / 10 : ℝ) : EReal))
    (1 + ((((BitVec.ofNat 32 (if (0 : Fin 1) ∈ [(0 : Fin 1)] then Fin.rev l else l).val).toInt : ℤ) : ℝ) : EReal)) = _
  rw [hk, ← EReal.coe_one, ← EReal.coe_add, ← EReal.coe_mul, Ideal.pow_coe_coe]
  refine congrArg _ ?_
  unfold discount
  rw [hl]
  have e1 : (1 : ℝ) + (((3 - l.val : ℕ) : ℤ) : ℝ) = ((1 + (3 - l.val) : ℕ) : ℝ) := by push_cast; rfl
  have e2 : (9 : ℝ) * (1 / 10) = 9 / 10 := by norm_num
  rw [e1, e2]
  exact Real.rpow_natCast _ _

/-! ## The result -/

/-- The demands as the reference lays them out. -/
def demands (q : S50000x128.Idx → EReal) : S50000x4.Idx → EReal :=
  shapeCast S50000x4 (broadcastInDim S50000x1x4 ![0, 1] bcast_S50000x1_S50000x1x4_0_1 (broadcastInDim S50000x1 ![0] bcast_S50000_S50000x1_0
    (shapeCast S50000 (extractStridedSlice S50000x1 ![0, 0] q slices_S50000x128_S50000x1_0_0) shapeCasts_S50000x1_S50000))) shapeCasts_S50000x1x4_S50000x4

theorem demands_apply (q : S50000x128.Idx → EReal) (n : Fin 50000) (l : Fin 4) : demands q (ValueIdx.ix2 n l) = demand q n.val := by
  unfold demand
  rw [dif_pos n.isLt]
  pointwise [demands]
  rfl

/-- The reference's composed term. -/
def term (a b q : S50000x4.Idx → EReal) (r : S4.Idx → EReal) : S_.Idx → EReal :=
  mulf (F := Ideal) (φ := .f32) (Host.divf (Host.reduceAdd (Host.reduceAdd (mulf (mulf (subf (subf a b) q) (subf (subf a b) q))
    (broadcastInDim S50000x4 ![0, 1] bcast_S1x4_S50000x4_0_1 (broadcastInDim S1x4 ![1] bcast_S4_S1x4_1 r))) (constant S_ .f32 0x00000000#32) reducesTo_S50000x4_S50000_d1 h_S_)
    (constant S_ .f32 0x00000000#32) reducesTo_S50000_S_d0 h_S_) (constant S_ .f32 0x47435000#32)) (constant S_ .f32 0x3F800000#32)

theorem term_apply (a b q : S50000x4.Idx → EReal) (r : S4.Idx → EReal) (i : S_.Idx) : term a b q r i
    = (∑ n : Fin 50000, ∑ l : Fin 4, (a (ValueIdx.ix2 n l) - b (ValueIdx.ix2 n l) - q (ValueIdx.ix2 n l)) * (a (ValueIdx.ix2 n l) - b (ValueIdx.ix2 n l) - q (ValueIdx.ix2 n l))
        * r (ValueIdx.ix1 l)) * ((1 / 50000 : ℝ) : EReal) := by
  pointwise [term]
  rw [nodes, Ideal.div_coe (by norm_num)]
  rfl

/-- The reference's result is the loss. -/
theorem value_eq (x : S2x1600000.Idx → BitVec 32) (hx : ∀ i, (x i).toNat < 50000) (p : S1600000x4.Idx → EReal) (q : S50000x128.Idx → EReal) :
    term (scat x p 0 slices_S2x1600000_S1x1600000_0_0) (scat x p 1 slices_S2x1600000_S1x1600000_1_0) (demands q) powers = fun _ => loss x p q := by
  funext i
  rw [term_apply]
  unfold loss
  rw [Finset.sum_range]
  refine congrArg (fun y : EReal => y * ((1 / 50000 : ℝ) : EReal)) ?_
  refine Finset.sum_congr rfl fun n _ => Finset.sum_congr rfl fun l _ => ?_
  rw [scat_apply x hx, scat_apply x hx, demands_apply, powers_apply]
  rfl

variable (m : (ℓ : Loc nD τ sig) → Buf (Elt Ideal) ℓ) (ρ : Dev nD → PrngReg)

/-- The reference's run, its result at the loss of its arguments. -/
theorem run_value (hx : ∀ (d : Dev nD) (i : S2x1600000.Idx), (m ((d.tc : Thread nD τ).loc main_arg4) i : BitVec 32).toNat < 50000) :
    θ_run defs (onTc (τ := τ) (main (F := Ideal))) ⟨m, fun _ => 0, ρ⟩ fun r => ∀ c : Dev nD,
      r.2.mem ((c.tc : Thread nD τ).loc main_v34)
        = (fun _ => loss (m ((c.tc : Thread nD τ).loc main_arg4)) (m ((c.tc : Thread nD τ).loc main_arg0)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (value_eq _ (hx c) _ _), (h c).2⟩) (Cert.ReferenceIdeal.Value.run (F := Ideal) m ρ)

end Cert.Proof.Ref

end
-- ==== Proof.Equal.lean ====
/-
  The kernel's value is the reference's: both programs end with the loss of the arguments they share.
-/
module

public import proofs.«01_k».proof.Defs
public import proofs.«01_k».proof.Proof.Value
public import proofs.«01_k».proof.Proof.Refer

@[expose] public section

noncomputable section

namespace Cert.Proof

open Idealize.ShloMosaic Idealize.SL.Sem

theorem algebraic : Cert.algebraic_KernelIdeal_ReferenceIdeal := by
  intro m g m' g' hp hm
  have hx : ∀ (d : Dev Cert.KernelIdeal.nD) (i : Cert.KernelIdeal.S2x1600000.Idx),
      (m ((d.tc : Thread Cert.KernelIdeal.nD Cert.KernelIdeal.τ).loc Cert.KernelIdeal.main_arg4) i : BitVec 32).toNat < 50000 :=
    fun d => Seg.ok_of_pre _ _ _ _ _ (hp d)
  have hx' : ∀ (d : Dev Cert.ReferenceIdeal.nD) (i : Cert.ReferenceIdeal.S2x1600000.Idx),
      (m' ((d.tc : Thread Cert.ReferenceIdeal.nD Cert.ReferenceIdeal.τ).loc Cert.ReferenceIdeal.main_arg4) i : BitVec 32).toNat < 50000 := fun d i => by
    rw [(hm d).2.2.2.2]
    exact hx d i
  refine ⟨fun c _ => Seg.loss (m ((c.tc : Thread Cert.KernelIdeal.nD Cert.KernelIdeal.τ).loc Cert.KernelIdeal.main_arg4))
    (m ((c.tc : Thread Cert.KernelIdeal.nD Cert.KernelIdeal.τ).loc Cert.KernelIdeal.main_arg0))
    (m ((c.tc : Thread Cert.KernelIdeal.nD Cert.KernelIdeal.τ).loc Cert.KernelIdeal.main_arg3)), ?_, ?_⟩
  · exact (θ_run Cert.KernelIdeal.defs _ _).mono
      (fun _ h c => ⟨(h.1 c Cert.KernelIdeal.main_v35 rfl).trans (Seg.value_eq m c (hx c)),
        (h.1 c Cert.KernelIdeal.main_arg0 rfl).trans (Seg.kept m c _ (by decide)),
        (h.1 c Cert.KernelIdeal.main_arg1 rfl).trans (Seg.kept m c _ (by decide)),
        (h.1 c Cert.KernelIdeal.main_arg2 rfl).trans (Seg.kept m c _ (by decide)),
        (h.1 c Cert.KernelIdeal.main_arg3 rfl).trans (Seg.kept m c _ (by decide)),
        (h.1 c Cert.KernelIdeal.main_arg4 rfl).trans (Seg.kept m c _ (by decide))⟩)
      (Seg.run_main m g fun d => Seg.args_ok m d (hx d))
  · refine (θ_run Cert.ReferenceIdeal.defs _ _).mono (fun _ h c => ⟨(h c).1.trans ?_, (h c).2⟩) (Ref.run_value m' g' hx')
    rw [(hm c).1, (hm c).2.2.2.1, (hm c).2.2.2.2]
    rfl

end Cert.Proof

end
-- ==== Proof.lean ====
/-
  The certificate's claims, each from the module that proves it.
-/
module

public import proofs.«01_k».proof.Defs
public import proofs.«01_k».proof.Proof.Words
public import proofs.«01_k».proof.Proof.Equal
public import proofs.«01_k».proof.Proof.Gen.ReferenceIdeal
public import proofs.«01_k».proof.Proof.Gen.ReferenceIdeal.Run
public import proofs.«01_k».proof.Proof.Gen.Pre_in_range

@[expose] public section

noncomputable section

namespace Cert.Proof

open Idealize.ShloMosaic Idealize.SL.Sem

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem named : Cert.preserves_Kernel_KernelIdeal :=
  ⟨IdealRules.named_const.statement _ _ _ _ _ rfl, IdealRules.named_const.statement _ _ _ _ _ rfl,
    IdealRules.named_const.statement _ _ _ _ _ rfl, IdealRules.named_const.statement _ _ _ _ _ rfl,
    IdealRules.named_const.statement _ _ _ _ _ rfl⟩

theorem claim : Cert.Claim :=
  ⟨Cert.Kernel.Gen.facts, Cert.KernelIdeal.Gen.facts, Cert.ReferenceIdeal.Gen.facts, Cert.Pre_in_range.Gen.facts,
    Seg.frame_kernel, Seg.frame_kernelIdeal, frame_reference, fun m ρ _ => frame_reference m ρ trivial, named,
    algebraic⟩

end Cert.Proof

end
